-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S512x3x8192 : Shape := ⟨3, ![512, 3, 8192]⟩
abbrev S512x8 : Shape := ⟨2, ![512, 8]⟩
abbrev S512x8x8192 : Shape := ⟨3, ![512, 8, 8192]⟩
abbrev S_ : Shape := ⟨0, ![]⟩
abbrev S512x8192 : Shape := ⟨2, ![512, 8192]⟩

class Facts : Prop where
  bcast_S_S512x8 : S_.BroadcastsInDim S512x8 (![] : Fin 0 → Fin S512x8.rank)
  bcast_S_S512x8x8192 : S_.BroadcastsInDim S512x8x8192 (![] : Fin 0 → Fin S512x8x8192.rank)
  reducesTo_S512x8x8192_S512x8192_d1 : S512x8x8192.ReducesTo [1] S512x8192
  h_S_ : 0 < S_.numel
  bcast_S_S512x8192 : S_.BroadcastsInDim S512x8192 (![] : Fin 0 → Fin S512x8192.rank)
  reducesTo_S512x3x8192_S512x8192_d1 : S512x3x8192.ReducesTo [1] S512x8192
  reducesTo_S512x8_S_d0_1 : S512x8.ReducesTo [0, 1] S_
  reducesTo_S512x8x8192_S_d0_1_2 : S512x8x8192.ReducesTo [0, 1, 2] S_
  reducesTo_S512x8192_S_d0_1 : S512x8192.ReducesTo [0, 1] S_

variable [Facts]

def fn_part1 {F : FTy → Type} [FloatOps F] (main_arg0 : FVec F S512x3x8192 .f32) (main_v7 : IVec S512x8 1) (main_v12 : IVec S512x8x8192 1) (main_v15 : IVec S512x8192 1) (main_cst : FVec F S_ .f32) : IVec S_ 1 :=
  let main_v16 : FVec F S512x8192 .f32 := (fun x v => Host.reduce FloatOps.maximumf x v reducesTo_S512x3x8192_S512x8192_d1 h_S_) main_arg0 main_cst
  let main_v17 : FVec F S512x8192 .f32 := Host.absf main_v16
  let main_cst_6 : FVec F S_ .f32 := constant S_ .f32 0x7F800000#32
  let main_v18 : FVec F S512x8192 .f32 := broadcastInDim S512x8192 ![] bcast_S_S512x8192 main_cst_6
  let main_v19 : IVec S512x8192 1 := cmpf .olt main_v17 main_v18
  let main_c_7 : IVec S_ 1 := constantI S_ 1 1#1
  let main_v20 : IVec S_ 1 := (fun x v => Host.reduce IntOp.andi x v reducesTo_S512x8_S_d0_1 h_S_) main_v7 main_c_7
  let main_c_8 : IVec S_ 1 := constantI S_ 1 1#1
  let main_v21 : IVec S_ 1 := (fun x v => Host.reduce IntOp.andi x v reducesTo_S512x8x8192_S_d0_1_2 h_S_) main_v12 main_c_8
  let main_v22 : IVec S_ 1 := andi main_v20 main_v21
  let main_c_9 : IVec S_ 1 := constantI S_ 1 1#1
  let main_v23 : IVec S_ 1 := (fun x v => Host.reduce IntOp.andi x v reducesTo_S512x8192_S_d0_1 h_S_) main_v15 main_c_9
  let main_v24 : IVec S_ 1 := andi main_v22 main_v23
  let main_c_10 : IVec S_ 1 := constantI S_ 1 1#1
  let main_v25 : IVec S_ 1 := (fun x v => Host.reduce IntOp.andi x v reducesTo_S512x8192_S_d0_1 h_S_) main_v19 main_c_10
  let main_v26 : IVec S_ 1 := andi main_v24 main_v25
  main_v26

def fn {F : FTy → Type} [FloatOps F] (main_arg0 : FVec F S512x3x8192 .f32) (main_arg1 : IVec S512x8 32) (main_arg2 : IVec S512x8x8192 32) : IVec S_ 1 :=
  let main_c : IVec S_ 32 := constantI S_ 32 4294967196#32
  let main_v0 : IVec S512x8 32 := broadcastInDim S512x8 ![] bcast_S_S512x8 main_c
  let main_v1 : IVec S512x8 1 := cmpi .eq main_arg1 main_v0
  let main_c_0 : IVec S_ 32 := constantI S_ 32 0#32
  let main_v2 : IVec S512x8 32 := broadcastInDim S512x8 ![] bcast_S_S512x8 main_c_0
  let main_v3 : IVec S512x8 1 := cmpi .sge main_arg1 main_v2
  let main_c_1 : IVec S_ 32 := constantI S_ 32 3#32
  let main_v4 : IVec S512x8 32 := broadcastInDim S512x8 ![] bcast_S_S512x8 main_c_1
  let main_v5 : IVec S512x8 1 := cmpi .slt main_arg1 main_v4
  let main_v6 : IVec S512x8 1 := andi main_v3 main_v5
  let main_v7 : IVec S512x8 1 := ori main_v1 main_v6
  let main_c_2 : IVec S_ 32 := constantI S_ 32 0#32
  let main_v8 : IVec S512x8x8192 32 := broadcastInDim S512x8x8192 ![] bcast_S_S512x8x8192 main_c_2
  let main_v9 : IVec S512x8x8192 1 := cmpi .eq main_arg2 main_v8
  let main_c_3 : IVec S_ 32 := constantI S_ 32 1#32
  let main_v10 : IVec S512x8x8192 32 := broadcastInDim S512x8x8192 ![] bcast_S_S512x8x8192 main_c_3
  let main_v11 : IVec S512x8x8192 1 := cmpi .eq main_arg2 main_v10
  let main_v12 : IVec S512x8x8192 1 := ori main_v9 main_v11
  let main_c_4 : IVec S_ 32 := constantI S_ 32 0#32
  let main_v13 : IVec S512x8192 32 := (fun x v => Host.reduce IntOp.addi x v reducesTo_S512x8x8192_S512x8192_d1 h_S_) main_arg2 main_c_4
  let main_c_5 : IVec S_ 32 := constantI S_ 32 1#32
  let main_v14 : IVec S512x8192 32 := broadcastInDim S512x8192 ![] bcast_S_S512x8192 main_c_5
  let main_v15 : IVec S512x8192 1 := cmpi .sle main_v13 main_v14
  let main_cst : FVec F S_ .f32 := constant S_ .f32 0xFF800000#32
  fn_part1 (F := F) main_arg0 main_v7 main_v12 main_v15 main_cst
-- ==== Kernel.lean ====
abbrev S512x3x8192 : Shape := ⟨3, ![512, 3, 8192]⟩
abbrev S512x8 : Shape := ⟨2, ![512, 8]⟩
abbrev S512x8x8192 : Shape := ⟨3, ![512, 8, 8192]⟩
abbrev S3x512x8192 : Shape := ⟨3, ![3, 512, 8192]⟩
abbrev S8x512 : Shape := ⟨2, ![8, 512]⟩
abbrev S1x1 : Shape := ⟨2, ![1, 1]⟩
abbrev S3x32x8192 : Shape := ⟨3, ![3, 32, 8192]⟩
abbrev S32x8x8192 : Shape := ⟨3, ![32, 8, 8192]⟩
abbrev S32x1 : Shape := ⟨2, ![32, 1]⟩
abbrev S512x32 : Shape := ⟨2, ![512, 32]⟩
abbrev S32x8 : Shape := ⟨2, ![32, 8]⟩
abbrev S32x256 : Shape := ⟨2, ![32, 256]⟩
abbrev S256x8192 : Shape := ⟨2, ![256, 8192]⟩
abbrev S32x8192 : Shape := ⟨2, ![32, 8192]⟩
abbrev S1x32x8192 : Shape := ⟨3, ![1, 32, 8192]⟩
abbrev S32 : Shape := ⟨1, ![32]⟩
abbrev S1 : Shape := ⟨1, ![1]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S512x3x8192, .f32⟩
  | .hbm, ⟨1, _⟩ => ⟨S512x8, .i32⟩
  | .hbm, ⟨2, _⟩ => ⟨S512x8x8192, .i32⟩
  | .hbm, ⟨3, _⟩ => ⟨S3x512x8192, .f32⟩
  | .hbm, ⟨4, _⟩ => ⟨S8x512, .i32⟩
  | .hbm, ⟨5, _⟩ => ⟨S1x1, .f32⟩
  | .hbm, ⟨6, _⟩ => ⟨S_, .f32⟩
  | .local _ .vmem, ⟨0, _⟩ => ⟨S3x32x8192, .f32⟩
  | .local _ .vmem, ⟨1, _⟩ => ⟨S3x32x8192, .f32⟩
  | .local _ .vmem, ⟨2, _⟩ => ⟨S8x512, .i32⟩
  | .local _ .vmem, ⟨3, _⟩ => ⟨S32x8x8192, .i32⟩
  | .local _ .vmem, ⟨4, _⟩ => ⟨S32x8x8192, .i32⟩
  | .local _ .vmem, ⟨5, _⟩ => ⟨S1x1, .f32⟩
  | .local _ .vmem, ⟨6, _⟩ => ⟨S32x1, .f32⟩
  | .local _ .vmem, ⟨7, _⟩ => ⟨S32x1, .f32⟩
  | _, _ => ⟨S512x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v73 : BitVec 1 := Scalar.cmpi .eq arg0 c15_i32
  let v74 : BitVec 32 := Scalar.extui v73
  let c0_i32_33 : BitVec 32 := 0#32
  let v75 : BitVec 1 := Scalar.cmpi .ne v74 c0_i32_33
  v75

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x8x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S512x3x8192 : Shape := ⟨3, ![512, 3, 8192]⟩
abbrev S512x8 : Shape := ⟨2, ![512, 8]⟩
abbrev S512x8x8192 : Shape := ⟨3, ![512, 8, 8192]⟩
abbrev S_ : Shape := ⟨0, ![]⟩
abbrev S512x8x1 : Shape := ⟨3, ![512, 8, 1]⟩
abbrev S512x8192 : Shape := ⟨2, ![512, 8192]⟩
abbrev S512x1x8192 : Shape := ⟨3, ![512, 1, 8192]⟩
abbrev S512x1x8192x1 : Shape := ⟨4, ![512, 1, 8192, 1]⟩
abbrev S1 : Shape := ⟨1, ![1]⟩
abbrev S1x1x1x1 : Shape := ⟨4, ![1, 1, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S512x3x8192, .f32⟩
  | .hbm, ⟨1, _⟩ => ⟨S512x8, .i32⟩
  | .hbm, ⟨2, _⟩ => ⟨S512x8x8192, .i32⟩
  | .hbm, ⟨3, _⟩ => ⟨S_, .i32⟩
  | .hbm, ⟨4, _⟩ => ⟨S512x8, .i32⟩
  | .hbm, ⟨5, _⟩ => ⟨S512x8, .i1⟩
  | .hbm, ⟨6, _⟩ => ⟨S512x8x1, .i1⟩
  | .hbm, ⟨7, _⟩ => ⟨S_, .i32⟩
  | .hbm, ⟨8, _⟩ => ⟨S512x8x8192, .i32⟩
  | .hbm, ⟨9, _⟩ => ⟨S512x8x8192, .i1⟩
  | .hbm, ⟨10, _⟩ => ⟨S512x8x8192, .i1⟩
  | .hbm, ⟨11, _⟩ => ⟨S512x8x8192, .i1⟩
  | .hbm, ⟨12, _⟩ => ⟨S512x8x1, .i32⟩
  | .hbm, ⟨13, _⟩ => ⟨S_, .i32⟩
  | .hbm, ⟨14, _⟩ => ⟨S_, .i32⟩
  | .hbm, ⟨15, _⟩ => ⟨S512x8x8192, .i32⟩
  | .hbm, ⟨16, _⟩ => ⟨S512x8x8192, .i32⟩
  | .hbm, ⟨17, _⟩ => ⟨S512x8x8192, .i32⟩
  | .hbm, ⟨18, _⟩ => ⟨S_, .i32⟩
  | .hbm, ⟨19, _⟩ => ⟨S512x8192, .i32⟩
  | .hbm, ⟨20, _⟩ => ⟨S_, .f32⟩
  | .hbm, ⟨21, _⟩ => ⟨S512x8192, .f32⟩
  | .hbm, ⟨22, _⟩ => ⟨S_, .f32⟩
  | .hbm, ⟨23, _⟩ => ⟨S512x8192, .f32⟩
  | .hbm, ⟨24, _⟩ => ⟨S512x8192, .f32⟩
  | .hbm, ⟨25, _⟩ => ⟨S512x1x8192, .f32⟩
  | .hbm, ⟨26, _⟩ => ⟨S512x3x8192, .f32⟩
  | .hbm, ⟨27, _⟩ => ⟨S512x3x8192, .f32⟩
  | .hbm, ⟨28, _⟩ => ⟨S512x3x8192, .f32⟩
  | .hbm, ⟨29, _⟩ => ⟨S_, .f32⟩
  | .hbm, ⟨30, _⟩ => ⟨S512x8192, .f32⟩
  | .hbm, ⟨31, _⟩ => ⟨S512x1x8192, .f32⟩
  | .hbm, ⟨32, _⟩ => ⟨S512x1x8192, .f32⟩
  | .hbm, ⟨33, _⟩ => ⟨S512x3x8192, .f32⟩
  | .hbm, ⟨34, _⟩ => ⟨S512x3x8192, .f32⟩
  | .hbm, ⟨35, _⟩ => ⟨S_, .i32⟩
  | .hbm, ⟨36, _⟩ => ⟨S512x8192, .i32⟩
  | .hbm, ⟨37, _⟩ => ⟨S512x8192, .i1⟩
  | .hbm, ⟨38, _⟩ => ⟨S_, .i32⟩
  | .hbm, ⟨39, _⟩ => ⟨S_, .i32⟩
  | .hbm, ⟨40, _⟩ => ⟨S512x8192, .i32⟩
  | .hbm, ⟨41, _⟩ => ⟨S512x8192, .i32⟩
  | .hbm, ⟨42, _⟩ => ⟨S512x1x8192, .i32⟩
  | .hbm, ⟨43, _⟩ => ⟨S_, .i32⟩
  | .hbm, ⟨44, _⟩ => ⟨S512x1x8192, .i32⟩
  | .hbm, ⟨45, _⟩ => ⟨S512x1x8192, .i1⟩
  | .hbm, ⟨46, _⟩ => ⟨S_, .i32⟩
  | .hbm, ⟨47, _⟩ => ⟨S512x1x8192, .i32⟩
  | .hbm, ⟨48, _⟩ => ⟨S512x1x8192, .i32⟩
  | .hbm, ⟨49, _⟩ => ⟨S512x1x8192, .i32⟩
  | .hbm, ⟨50, _⟩ => ⟨S512x1x8192x1, .i32⟩
  | .hbm, ⟨51, _⟩ => ⟨S1, .i32⟩
  | .hbm, ⟨52, _⟩ => ⟨S_, .i32⟩
  | .hbm, ⟨53, _⟩ => ⟨S512x1x8192x1, .i32⟩
  | .hbm, ⟨54, _⟩ => ⟨S512x1x8192x1, .i1⟩
  | .hbm, ⟨55, _⟩ => ⟨S1x1x1x1, .i32⟩
  | .hbm, ⟨56, _⟩ => ⟨S512x1x8192x1, .i32⟩
  | .hbm, ⟨57, _⟩ => ⟨S512x1x8192x1, .i1⟩
  | .hbm, ⟨58, _⟩ => ⟨S512x1x8192x1, .i1⟩
  | .hbm, ⟨59, _⟩ => ⟨S_, .i1⟩
  | .hbm, ⟨60, _⟩ => ⟨S512x1x8192, .i1⟩
  | .hbm, ⟨61, _⟩ => ⟨S512x1x8192, .f32⟩
  | .hbm, ⟨62, _⟩ => ⟨S_, .f32⟩
  | .hbm, ⟨63, _⟩ => ⟨S512x1x8192, .f32⟩
  | .hbm, ⟨64, _⟩ => ⟨S512x1x8192, .f32⟩
  | .hbm, ⟨65, _⟩ => ⟨S512x8192, .f32⟩
  | .hbm, ⟨66, _⟩ => ⟨S512x8192, .f32⟩
  | .hbm, ⟨67, _⟩ => ⟨S512x8192, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S512x8192, .f32⟩
  | .hbm, ⟨76, _⟩ => ⟨S512x8192, .f32⟩
  | .hbm, ⟨77, _⟩ => ⟨S_, .f32⟩
  | .hbm, ⟨78, _⟩ => ⟨S_, .f32⟩
  | .hbm, ⟨79, _⟩ => ⟨S_, .f32⟩
  | _, _ => ⟨S512x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_call1_cst : Ref sig .tc := ⟨.hbm, 20, rfl⟩
abbrev main_call1_v0 : Ref sig .tc := ⟨.hbm, 21, rfl⟩
abbrev main_call1_cst_0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_cst_1 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_v10 : Ref sig .tc := ⟨.hbm, 34, rfl⟩
abbrev main_c_3 : Ref sig .tc := ⟨.hbm, 35, rfl⟩
abbrev main_v11 : Ref sig .tc := ⟨.hbm, 36, rfl⟩
abbrev main_v12 : Ref sig .tc := ⟨.hbm, 37, rfl⟩
abbrev main_c_4 : Ref sig .tc := ⟨.hbm, 38, rfl⟩
abbrev main_call2_v0 : Ref sig .tc := ⟨.hbm, 39, rfl⟩
abbrev main_call2_v1 : Ref sig .tc := ⟨.hbm, 40, rfl⟩
abbrev main_v13 : Ref sig .tc := ⟨.hbm, 41, rfl⟩
abbrev main_v14 : Ref sig .tc := ⟨.hbm, 42, rfl⟩
abbrev main_call3_c : Ref sig .tc := ⟨.hbm, 43, rfl⟩
abbrev main_call3_v0 : Ref sig .tc := ⟨.hbm, 44, rfl⟩
abbrev main_call3_v1 : Ref sig .tc := ⟨.hbm, 45, rfl⟩
abbrev main_call3_c_0 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_v5 : Ref sig .tc := ⟨.hbm, 50, rfl⟩
abbrev main_call3_c_1 : Ref sig .tc := ⟨.hbm, 51, rfl⟩
abbrev main_call3_c_2 : Ref sig .tc := ⟨.hbm, 52, rfl⟩
abbrev main_call3_v6 : Ref sig .tc := ⟨.hbm, 53, rfl⟩
abbrev main_call3_v7 : Ref sig .tc := ⟨.hbm, 54, rfl⟩
abbrev main_call3_v8 : Ref sig .tc := ⟨.hbm, 55, rfl⟩
abbrev main_call3_v9 : Ref sig .tc := ⟨.hbm, 56, rfl⟩
abbrev main_call3_v10 : Ref sig .tc := ⟨.hbm, 57, rfl⟩
abbrev main_call3_v11 : Ref sig .tc := ⟨.hbm, 58, rfl⟩
abbrev main_call3_c_3 : Ref sig .tc := ⟨.hbm, 59, rfl⟩
abbrev main_call3_v12 : Ref sig .tc := ⟨.hbm, 60, rfl⟩
abbrev main_call3_v13 : Ref sig .tc := ⟨.hbm, 61, rfl⟩
abbrev main_call3_cst : Ref sig .tc := ⟨.hbm, 62, rfl⟩
abbrev main_call3_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_c_5 : Ref sig .tc := ⟨.hbm, 68, rfl⟩
abbrev main_v19 : Ref sig .tc := ⟨.hbm, 69, rfl⟩
abbrev main_c_6 : Ref sig .tc := ⟨.hbm, 70, rfl⟩
abbrev main_v20 : Ref sig .tc := ⟨.hbm, 71, rfl⟩
abbrev main_v21 : Ref sig .tc := ⟨.hbm, 72, rfl⟩
abbrev main_cst : Ref sig .tc := ⟨.hbm, 73, rfl⟩
abbrev main_call4_v0 : Ref sig .tc := ⟨.hbm, 74, rfl⟩
abbrev main_call4_v1 : Ref sig .tc := ⟨.hbm, 75, rfl⟩
abbrev main_v22 : Ref sig .tc := ⟨.hbm, 76, rfl⟩
abbrev main_cst_7 : Ref sig .tc := ⟨.hbm, 77, rfl⟩
abbrev main_v23 : Ref sig .tc := ⟨.hbm, 78, rfl⟩
abbrev main_v24 : Ref sig .tc := ⟨.hbm, 79, rfl⟩

abbrev nD : Nat := 1
abbrev τ : Topo := Topo.v7x

variable {F : FTy → Type} [FloatOps F]
-- ==== Proof.Math.Reads.lean ====
/-
  The host's reductions over the middle axis of a three-axis array, and the host's sum of words over a whole array, read
  at an index.
-/
module

public import Idealize.ShloMosaic.Lib.Pointwise
public import Idealize.ShloMosaic.PureOps.Reduce

@[expose] public section

noncomputable section

namespace Cert.Loss

open Idealize.ShloMosaic

variable {A n C : Nat}

theorem reduces_mid : Shape.Reduces ⟨3, ![A, n, C]⟩ [1] ⟨2, ![A, C]⟩ :=
  ⟨rfl, by show 0 < 2; decide, fun b => match b with | ⟨0, _⟩ => rfl | ⟨1, _⟩ => rfl⟩

/-- The index the reduction over the middle axis reads. -/
theorem lift_mid (h : Shape.Reduces ⟨3, ![A, n, C]⟩ [1] ⟨2, ![A, C]⟩) (b : Fin A) (s : Fin C) (t : Fin n) :
    h.lift (ix2 b s) t = ix3 b t s := by
  funext a
  match a with
  | ⟨0, _⟩ => rfl
  | ⟨1, _⟩ => rfl
  | ⟨2, _⟩ => rfl

/-- A reduction over the middle axis is a fold over its coordinates. -/
theorem reduce_mid {α : Type} {u : Shape} (f : α → α → α) [Std.Commutative f] [Std.Associative f]
    (x : (⟨3, ![A, n, C]⟩ : Shape).Idx → α) (init : u.Idx → α) (h : Shape.ReducesTo ⟨3, ![A, n, C]⟩ [1] ⟨2, ![A, C]⟩)
    (hu : 0 < u.numel) (b : Fin A) (s : Fin C) :
    Host.reduce f x init h hu (ix2 b s) = Finset.univ.fold f (init (Shape.Idx.first hu)) fun t : Fin n => x (ix3 b t s) := by
  rw [Host.reduce_eq_fold_single f x init h reduces_mid hu]
  exact Finset.fold_congr fun t _ => congrArg x (lift_mid reduces_mid b s t)

theorem reduces_last {B : Nat} : Shape.Reduces ⟨4, ![A, B, C, 1]⟩ [3] ⟨3, ![A, B, C]⟩ :=
  ⟨rfl, by show 0 < 3; decide, fun b => match b with | ⟨0, _⟩ => rfl | ⟨1, _⟩ => rfl | ⟨2, _⟩ => rfl⟩

/-- A reduction over a last axis of one coordinate combines that one element with the initial value. -/
theorem reduce_last {α : Type} {u : Shape} {B : Nat} (f : α → α → α) [Std.Commutative f] [Std.Associative f]
    (x : (⟨4, ![A, B, C, 1]⟩ : Shape).Idx → α) (init : u.Idx → α)
    (h : Shape.ReducesTo ⟨4, ![A, B, C, 1]⟩ [3] ⟨3, ![A, B, C]⟩) (hu : 0 < u.numel) (b : Fin A) (t : Fin B) (s : Fin C) :
    Host.reduce f x init h hu (ix3 b t s) = f (x (ix4 b t s 0)) (init (Shape.Idx.first hu)) := by
  rw [Host.reduce_eq_fold_single f x init h reduces_last hu]
  refine (Finset.fold_singleton (a := (0 : Fin 1))).trans ?_
  refine congrArg (fun i => f (x i) _) ?_
  funext a
  match a with
  | ⟨0, _⟩ => rfl
  | ⟨1, _⟩ => rfl
  | ⟨2, _⟩ => rfl
  | ⟨3, _⟩ => rfl

/-- The fold of addition over words that hold naturals holds their sum. -/
theorem fold_addi {ι : Type} (S : Finset ι) (x : ι → BitVec 32) (f : ι → Nat) (h : ∀ i, x i = BitVec.ofNat 32 (f i)) :
    S.fold IntOp.addi 0#32 x = BitVec.ofNat 32 (∑ i ∈ S, f i) := by
  classical
  induction S using Finset.induction with
  | empty => rfl
  | insert a S ha ih =>
    rw [Finset.fold_insert ha, Finset.sum_insert ha, ih, h a]
    exact (BitVec.ofNat_add ..).symm

/-- A sum of words over a whole array holds the sum of the naturals they hold. -/
theorem reduce_words {s t u : Shape} {axes : List (Fin s.rank)} (ht : t.rank = 0) (x : s.Idx → BitVec 32) (f : s.Idx → Nat)
    (hx : ∀ i, x i = BitVec.ofNat 32 (f i)) (init : u.Idx → BitVec 32) (h : s.ReducesTo axes t) (hu : 0 < u.numel)
    (hi : init (Shape.Idx.first hu) = 0#32) (j : t.Idx) :
    Host.reduce IntOp.addi x init h hu j = BitVec.ofNat 32 (∑ i, f i) := by
  rw [Host.reduce_eq_fold, hi, Finset.filter_true_of_mem fun i _ => funext fun b => (b.cast ht).elim0]
  exact fold_addi _ x f hx

/-- A sum of zeros and ones over a two-axis array is at most its number of elements. -/
theorem sum_bits_le (f : (⟨2, ![A, C]⟩ : Shape).Idx → Nat) (h : ∀ j, f j ≤ 1) : ∑ j, f j ≤ A * C := by
  rw [ValueIdx.sum_idx2]
  refine (Finset.sum_le_sum (g := fun _ => C) fun a _ => ?_).trans (by simp)
  exact (Finset.sum_le_sum (g := fun _ => 1) fun c _ => h _).trans (by simp)

/-- The greater of a small count and one, as signed words. -/
theorem maxsi_count (N : Nat) (h : N < 2 ^ 31) : (IntOp.maxsi (BitVec.ofNat 32 N) 1#32).toInt = ((max N 1 : Nat) : ℤ) := by
  have hN : (BitVec.ofNat 32 N).toInt = (N : ℤ) := by
    rw [BitVec.toInt_eq_toNat_of_lt (by rw [BitVec.toNat_ofNat]; omega), BitVec.toNat_ofNat]; omega
  have h1 : (1#32 : BitVec 32).toInt = 1 := by decide
  unfold IntOp.maxsi
  rw [BitVec.slt_eq_decide, hN, h1]
  by_cases hlt : (1 : ℤ) < N
  · rw [if_pos (decide_eq_true hlt), hN]; omega
  · rw [if_neg (by simpa using hlt), h1]; omega

theorem cast_max_one (N : Nat) : ((max N 1 : Nat) : EReal) = max (N : EReal) 1 := by
  rw [(Nat.mono_cast (α := EReal)).map_max, Nat.cast_one]

/-- At the exact numbers the float maximum is the order's. -/
theorem maximumf_eq : (FloatOps.maximumf : Ideal .f32 → Ideal .f32 → Ideal .f32) = (max : EReal → EReal → EReal) := rfl

theorem ofBits_neg_inf : (FloatOps.ofBits .f32 0xFF800000#32 : Ideal .f32) = (⊥ : EReal) := by
  show Ideal.ofBits .f32 0xFF800000#32 = ⊥
  simp [Ideal.ofBits, Ideal.ieee]

theorem ofBits_inf : (FloatOps.ofBits .f32 0x7F800000#32 : Ideal .f32) = (⊤ : EReal) := by
  show Ideal.ofBits .f32 0x7F800000#32 = ⊤
  simp [Ideal.ofBits, Ideal.ieee]

/-- The greatest of the three logits of a pixel. -/
def greatest (x : Fin 3 → EReal) : EReal := Finset.univ.fold max ⊥ x

theorem reduce_max (x : FVec Ideal ⟨3, ![A, 3, C]⟩ .f32) {u : Shape} (init : FVec Ideal u .f32)
    (h : Shape.ReducesTo ⟨3, ![A, 3, C]⟩ [1] ⟨2, ![A, C]⟩) (hu : 0 < u.numel) (hi : init (Shape.Idx.first hu) = (⊥ : EReal))
    (b : Fin A) (s : Fin C) :
    Host.reduce FloatOps.maximumf x init h hu (ix2 b s) = greatest fun k => x (ix3 b k s) := by
  rw [maximumf_eq]
  refine (reduce_mid (max : EReal → EReal → EReal) x init h hu b s).trans ?_
  rw [hi]
  rfl

/-- When the greatest logit is a real number, every logit is at most it and one of them is it. -/
theorem greatest_real (x : Fin 3 → EReal) (M : ℝ) (h : greatest x = (M : EReal)) :
    (∀ k, x k ≤ (M : EReal)) ∧ ∃ k, x k = (M : EReal) := by
  have e : greatest x = max (x 0) (max (x 1) (max (x 2) ⊥)) := by
    unfold greatest
    rw [show (Finset.univ : Finset (Fin 3)) = {0, 1, 2} from by decide, Finset.fold_insert (by decide),
      Finset.fold_insert (by decide), Finset.fold_singleton]
  rw [max_bot_right] at e
  rw [h] at e
  constructor
  · intro k
    rw [e]
    match k with
    | ⟨0, _⟩ => exact le_max_left _ _
    | ⟨1, _⟩ => exact le_max_of_le_right (le_max_left _ _)
    | ⟨2, _⟩ => exact le_max_of_le_right (le_max_right _ _)
  · rcases max_choice (x 0) (max (x 1) (x 2)) with h0 | h0
    · exact ⟨0, (e.trans h0).symm⟩
    · rcases max_choice (x 1) (x 2) with h1 | h1
      · exact ⟨1, (e.trans (h0.trans h1)).symm⟩
      · exact ⟨2, (e.trans (h0.trans h1)).symm⟩

end Cert.Loss

end
-- ==== Proof.Math.Target.lean ====
/-
  The target of one pixel, from the eight classes of its row and its eight mask bits. When every class is the fill value
  `-100` or one of `0, 1, 2`, and at most one bit is set, the pixel has either no target or one target class. The greatest
  of the masked classes (what the reference computes) and the sum of the weights of the classes by the bits (what the
  kernel computes) both say which. The cross entropy and the mean are stated over these targets.
-/
module

public import Idealize.ShloMosaic.PureOps.Ideal
public import Idealize.ShloMosaic.PureOps.Reduce

@[expose] public section

noncomputable section

namespace Cert.Loss

open Idealize.ShloMosaic

/-- The fill value `-100`, which marks a missing class. -/
abbrev fill : BitVec 32 := 4294967196#32

/-- What the arguments of one pixel satisfy: its classes are known ones, its mask bits are bits, and their sum is at
    most one. -/
structure Known (c mk : Fin 8 → BitVec 32) : Prop where
  cls : ∀ t, c t = fill ∨ c t = 0#32 ∨ c t = 1#32 ∨ c t = 2#32
  bit : ∀ t, mk t = 0#32 ∨ mk t = 1#32
  disjoint : (Finset.univ.fold IntOp.addi 0#32 mk).toInt ≤ 1

/-- The reference's word for a target: the greatest masked class. -/
def word : Option (Fin 3) → BitVec 32
  | none => fill
  | some k => BitVec.ofNat 32 k.val

/-- The kernel's number for a target: zero without one, the class plus four with one. -/
def code : Option (Fin 3) → ℝ
  | none => 0
  | some k => k.val + 4

/-- The kernel's weight of a class word. -/
def weight (v : BitVec 32) : EReal := if ((v.toInt : ℝ) : EReal) = ((-100 : ℝ) : EReal) then 0 else ((v.toInt : ℝ) : EReal) + ((4 : ℝ) : EReal)

/-- Eight bits of sum at most one: none is set, or one is. -/
theorem one_bit : ∀ b : Fin 8 → Bool, (Finset.univ.fold IntOp.addi 0#32 fun t => if b t then 1#32 else 0#32).toInt ≤ 1 →
    (∀ t, b t = false) ∨ ∃ t, b t = true ∧ ∀ u, u ≠ t → b u = false := by decide +kernel

theorem one_word (mk : Fin 8 → BitVec 32) (hb : ∀ t, mk t = 0#32 ∨ mk t = 1#32)
    (h : (Finset.univ.fold IntOp.addi 0#32 mk).toInt ≤ 1) :
    (∀ t, mk t = 0#32) ∨ ∃ t, mk t = 1#32 ∧ ∀ u, u ≠ t → mk u = 0#32 := by
  have e : mk = fun t => if (decide (mk t = 1#32)) then 1#32 else 0#32 := by
    funext t
    rcases hb t with h | h <;> simp [h]
  have z : ∀ t, decide (mk t = 1#32) = false → mk t = 0#32 := fun t ht =>
    (hb t).resolve_right (of_decide_eq_false ht)
  rw [e] at h
  rcases one_bit _ h with h0 | ⟨t, ht, hu⟩
  · exact .inl fun t => z t (h0 t)
  · exact .inr ⟨t, of_decide_eq_true ht, fun u hn => z u (hu u hn)⟩

/-- The greatest of eight words of which all but one are the fill value. -/
theorem max_single : ∀ t : Fin 8, ∀ o : Option (Fin 3),
    (Finset.univ.fold IntOp.maxsi 2147483648#32 fun u => if u = t then word o else fill) = word o := by decide +kernel

/-- A known class is the word of a target. -/
theorem word_of (v : BitVec 32) (h : v = fill ∨ v = 0#32 ∨ v = 1#32 ∨ v = 2#32) : ∃ o, v = word o := by
  rcases h with h | h | h | h
  · exact ⟨none, h⟩
  · exact ⟨some 0, h⟩
  · exact ⟨some 1, h⟩
  · exact ⟨some 2, h⟩

theorem weight_word (o : Option (Fin 3)) : weight (word o) = ((code o : ℝ) : EReal) := by
  have h : ∀ o, (word o).toInt = match o with | none => -100 | some k => (k.val : ℤ) := by decide
  unfold weight
  rw [h o]
  match o with
  | none => simp [code]
  | some k =>
    have : ¬(((k.val : ℤ) : ℝ) = -100) := by
      have : (0 : ℝ) ≤ ((k.val : ℤ) : ℝ) := by positivity
      intro e; rw [e] at this; norm_num at this
    rw [if_neg (by rw [EReal.coe_eq_coe_iff]; exact this), ← EReal.coe_add]
    rfl

/-- The target of a known pixel, by the reference's greatest class and by the kernel's sum. -/
theorem Known.target {c mk : Fin 8 → BitVec 32} (h : Known c mk) : ∃ o : Option (Fin 3),
    (Finset.univ.fold IntOp.maxsi 2147483648#32 fun t => if c t ≠ fill ∧ mk t = 1#32 then c t else fill) = word o
    ∧ ∑ t, weight (c t) * (((mk t).toInt : ℝ) : EReal) = ((code o : ℝ) : EReal) := by
  rcases one_word mk h.bit h.disjoint with h0 | ⟨t, ht, hu⟩
  · refine ⟨none, ?_, ?_⟩
    · rw [show (fun t => if c t ≠ fill ∧ mk t = 1#32 then c t else fill)
          = fun u => if u = (0 : Fin 8) then word none else fill from funext fun t => by
        rw [if_neg fun hh => by rw [h0 t] at hh; exact absurd hh.2 (by decide)]
        exact (ite_self fill).symm]
      exact max_single 0 none
    · rw [Finset.sum_eq_zero fun t _ => by rw [h0 t]; simp]
      simp [code]
  · obtain ⟨o, ho⟩ := word_of _ (h.cls t)
    refine ⟨o, ?_, ?_⟩
    · rw [show (fun t => if c t ≠ fill ∧ mk t = 1#32 then c t else fill)
          = fun u => if u = t then word o else fill from funext fun u => by
        by_cases e : u = t
        · subst e
          rw [if_pos rfl, ← ho]
          by_cases hf : c u = fill
          · rw [if_neg fun hh => hh.1 hf, hf]
          · rw [if_pos ⟨hf, ht⟩]
        · rw [if_neg e, if_neg fun hh => by rw [hu u e] at hh; exact absurd hh.2 (by decide)]]
      exact max_single t o
    · rw [Finset.sum_eq_single t (fun u _ e => by rw [hu u e]; simp) fun hn => absurd (Finset.mem_univ t) hn, ht, ho,
        weight_word]
      simp

/-! ## The loss over targets -/

/-- The cross entropy of one pixel with logits `x` at a target: nothing without one. -/
def pixelLoss (x : Fin 3 → EReal) : Option (Fin 3) → EReal
  | none => 0
  | some k => Ideal.log (Ideal.exp (x 0) + Ideal.exp (x 1) + Ideal.exp (x 2)) - x k

/-- One for a pixel with a target. -/
def pixelCount : Option (Fin 3) → EReal
  | none => 0
  | some _ => 1

/-- The mean of the cross entropies over the pixels with a target (over at least one). -/
def meanLoss (p : Fin 512 → Fin 8192 → Fin 3 → EReal) (o : Fin 512 → Fin 8192 → Option (Fin 3)) : EReal :=
  Ideal.div (∑ b, ∑ s, pixelLoss (p b s) (o b s)) (max (∑ b, ∑ s, pixelCount (o b s)) 1)

end Cert.Loss

end
-- ==== Proof.Domain.lean ====
/-
  The precondition, read at a pixel: every class is the fill value or one of `0, 1, 2`, every mask bit is a bit, at most
  one mask covers a pixel, and the greatest logit of a pixel is a real number.
-/
module

public import proofs.«01_k».proof.Pre_well_posed
public import proofs.«01_k».proof.Proof.Math.Reads
public import proofs.«01_k».proof.Proof.Math.Target
public import Idealize.ShloMosaic.Lib.ReduceAll

@[expose] public section

set_option maxRecDepth 16384

noncomputable section

namespace Cert.Loss

open Idealize.ShloMosaic Cert.Pre_well_posed

/-- The side conditions of the precondition's operations. -/
instance preFacts : Cert.Pre_well_posed.Facts where
  bcast_S_S512x8 := by decide
  bcast_S_S512x8x8192 := by decide
  reducesTo_S512x8x8192_S512x8192_d1 := by decide
  h_S_ := by decide
  bcast_S_S512x8192 := by decide
  reducesTo_S512x3x8192_S512x8192_d1 := by decide
  reducesTo_S512x8_S_d0_1 := by decide
  reducesTo_S512x8x8192_S_d0_1_2 := by decide
  reducesTo_S512x8192_S_d0_1 := by decide

theorem andi_one : ∀ a b : BitVec 1, IntOp.andi a b = 1#1 → a = 1#1 ∧ b = 1#1 := by decide

theorem ori_one : ∀ a b : BitVec 1, IntOp.ori a b = 1#1 → a = 1#1 ∨ b = 1#1 := by decide

theorem ofBool_one (p : Bool) (h : BitVec.ofBool p = 1#1) : p = true := by
  cases p
  · exact absurd h (by decide)
  · rfl

theorem eq_one (x y : BitVec 32) (h : IntOp.cmpi .eq x y = 1#1) : x = y := by
  have := ofBool_one _ h
  simpa using this

theorem sle_one (x y : BitVec 32) (h : IntOp.cmpi .sle x y = 1#1) : x.toInt ≤ y.toInt := by
  have := ofBool_one _ h
  simpa [BitVec.sle_eq_decide] using this

theorem slt_one (x y : BitVec 32) (h : IntOp.cmpi .slt x y = 1#1) : x.toInt < y.toInt := by
  have := ofBool_one _ h
  simpa [BitVec.slt_eq_decide] using this

theorem sge_one (x y : BitVec 32) (h : IntOp.cmpi .sge x y = 1#1) : y.toInt ≤ x.toInt := by
  have := ofBool_one _ h
  simpa [BitVec.sle_eq_decide] using this

/-- A word between `0` and `2` is one of the three classes. -/
theorem class_of (v : BitVec 32) (h0 : (0#32 : BitVec 32).toInt ≤ v.toInt) (h3 : v.toInt < (3#32 : BitVec 32).toInt) :
    v = 0#32 ∨ v = 1#32 ∨ v = 2#32 := by
  have e0 : (0#32 : BitVec 32).toInt = 0 := by decide
  have e3 : (3#32 : BitVec 32).toInt = 3 := by decide
  rw [e0] at h0
  rw [e3] at h3
  have : v.toInt = 0 ∨ v.toInt = 1 ∨ v.toInt = 2 := by omega
  rcases this with h | h | h
  · exact .inl (BitVec.eq_of_toInt_eq (h.trans (by decide)))
  · exact .inr (.inl (BitVec.eq_of_toInt_eq (h.trans (by decide))))
  · exact .inr (.inr (BitVec.eq_of_toInt_eq (h.trans (by decide))))

/-- A number of absolute value below `+∞` is real. -/
theorem real_of_abs (x : EReal) (h : FloatOps.cmpf .olt (FloatOps.hostAbsf (F := Ideal) (φ := .f32) x) (FloatOps.ofBits .f32 0x7F800000#32) = 1#1) :
    ∃ M : ℝ, x = (M : EReal) := by
  rw [ofBits_inf] at h
  have h' : max x (-x) < ⊤ := by
    exact of_decide_eq_true (ofBool_one _ h)
  induction x using EReal.rec with
  | bot => simp at h'
  | coe r => exact ⟨r, rfl⟩
  | top => simp at h'

/-- The same at an element of an array. -/
theorem real_at {u t : Shape} (x : FVec Ideal t .f32) (d : Fin u.rank → Fin t.rank) (hb : u.BroadcastsInDim t d) (i : t.Idx)
    (h : cmpf .olt (Host.absf x) (broadcastInDim t d hb (constant u .f32 0x7F800000#32)) i = 1#1) : ∃ M : ℝ, x i = (M : EReal) :=
  real_of_abs (x i) h

variable (a0 : FVec Ideal S512x3x8192 .f32) (a1 : IVec S512x8 32) (a2 : IVec S512x8x8192 32)

/-- The precondition at a pixel. -/
theorem pre_at (h : Cert.Pre_well_posed.fn (F := Ideal) a0 a1 a2 = fun _ => 1#1) (b : Fin 512) (s : Fin 8192) :
    Known (fun t => a1 (ix2 b t)) (fun t => a2 (ix3 b t s)) ∧ ∃ M : ℝ, (greatest fun k => a0 (ix3 b k s)) = (M : EReal) := by
  haveI : Subsingleton S_.Idx := ⟨fun i j => funext fun a => a.elim0⟩
  have h0 := congrFun h ix0
  obtain ⟨h1, hfin⟩ := andi_one _ _ h0
  obtain ⟨h2, hdis⟩ := andi_one _ _ h1
  obtain ⟨hcls, hbit⟩ := andi_one _ _ h2
  refine ⟨⟨fun t => ?_, fun t => ?_, ?_⟩, ?_⟩
  · have e := Host.reduce_andi_all _ _ _ _ _ hcls (ix2 b t)
    rcases ori_one _ _ e with e | e
    · exact .inl (eq_one _ _ e)
    · obtain ⟨e1, e2⟩ := andi_one _ _ e
      exact .inr (class_of _ (sge_one _ _ e1) (slt_one _ _ e2))
  · have e := Host.reduce_andi_all _ _ _ _ _ hbit (ix3 b t s)
    rcases ori_one _ _ e with e | e
    · exact .inl (eq_one _ _ e)
    · exact .inr (eq_one _ _ e)
  · have e := sle_one _ (1#32) (Host.reduce_andi_all _ _ _ _ _ hdis (ix2 b s))
    have e1 : (1#32 : BitVec 32).toInt = 1 := by decide
    rw [e1] at e
    beta_reduce at e
    rw [reduce_mid IntOp.addi a2 (constantI S_ 32 0#32) _ _ b s] at e
    exact e
  · have e := real_at _ _ _ _ (Host.reduce_andi_all _ _ _ _ _ hfin (ix2 b s))
    beta_reduce at e
    rw [reduce_max a0 (constant S_ .f32 0xFF800000#32) _ _ ofBits_neg_inf b s] at e
    exact e

end Cert.Loss

end
-- ==== Proof.Math.Softmax.lean ====
/-
  The identity of the cross entropy of one pixel: with three logits whose greatest is a real number, the logarithm of
  the sum of their exponentials minus one of them is the negated log-softmax of it, computed after the greatest is
  subtracted. A logit may be `-∞`: both sides are then `+∞` at it.
-/
module

public import Idealize.ShloMosaic.PureOps.Ideal

@[expose] public section

noncomputable section

namespace Cert.Loss

open Idealize.ShloMosaic

/-- The exponential as a real number (`0` at `-∞`). -/
def expReal (x : EReal) : ℝ := if x = ⊥ then 0 else Real.exp x.toReal

theorem expReal_nonneg (x : EReal) : 0 ≤ expReal x := by
  unfold expReal; split
  · exact le_rfl
  · exact (Real.exp_pos _).le

theorem exp_eq (x : EReal) (h : x ≠ ⊤) : Ideal.exp x = ((expReal x : ℝ) : EReal) := by
  induction x using EReal.rec with
  | bot => simp [expReal]
  | coe r => simp [expReal]
  | top => exact absurd rfl h

theorem exp_sub_eq (x : EReal) (h : x ≠ ⊤) (M : ℝ) :
    Ideal.exp (x - (M : EReal)) = ((expReal x * Real.exp (-M) : ℝ) : EReal) := by
  induction x using EReal.rec with
  | bot => simp [expReal, sub_eq_add_neg]
  | coe r =>
    rw [← EReal.coe_sub, Ideal.exp_coe, EReal.coe_eq_coe_iff]
    simp only [expReal, EReal.coe_ne_bot, if_false, EReal.toReal_coe]
    rw [sub_eq_add_neg, Real.exp_add]
  | top => exact absurd rfl h

/-- The cross entropy of one pixel, without and with the greatest logit subtracted. -/
theorem nll_eq (x : Fin 3 → EReal) (M : ℝ) (hle : ∀ k, x k ≤ (M : EReal)) (hex : ∃ k, x k = (M : EReal)) (k : Fin 3) :
    Ideal.log (Ideal.exp (x 0) + Ideal.exp (x 1) + Ideal.exp (x 2)) - x k
      = -((x k - (M : EReal)) - Ideal.log (∑ i : Fin 3, Ideal.exp (x i - (M : EReal)))) := by
  have ht : ∀ i, x i ≠ ⊤ := fun i e => absurd (hle i) (by rw [e]; exact not_le_of_gt (EReal.coe_lt_top M))
  have hpos : 0 < expReal (x 0) + expReal (x 1) + expReal (x 2) := by
    obtain ⟨j, hj⟩ := hex
    have h0 := expReal_nonneg (x 0)
    have h1 := expReal_nonneg (x 1)
    have h2 := expReal_nonneg (x 2)
    have hp : 0 < expReal (x j) := by
      rw [hj]
      simp only [expReal, EReal.coe_ne_bot, if_false]
      exact Real.exp_pos _
    match j with
    | ⟨0, _⟩ => exact add_pos_of_pos_of_nonneg (add_pos_of_pos_of_nonneg hp h1) h2
    | ⟨1, _⟩ => exact add_pos_of_pos_of_nonneg (add_pos_of_nonneg_of_pos h0 hp) h2
    | ⟨2, _⟩ => exact add_pos_of_nonneg_of_pos (add_nonneg h0 h1) hp
  rw [Fin.sum_univ_three, exp_eq _ (ht 0), exp_eq _ (ht 1), exp_eq _ (ht 2), exp_sub_eq _ (ht 0), exp_sub_eq _ (ht 1),
    exp_sub_eq _ (ht 2), ← EReal.coe_add, ← EReal.coe_add, ← EReal.coe_add, ← EReal.coe_add, ← add_mul, ← add_mul]
  generalize expReal (x 0) + expReal (x 1) + expReal (x 2) = S at hpos
  rw [Ideal.log_coe, Ideal.log_coe, if_neg (not_le_of_gt hpos), if_neg (not_le_of_gt (mul_pos hpos (Real.exp_pos _))),
    Real.log_mul hpos.ne' (Real.exp_pos _).ne', Real.log_exp]
  generalize hy : x k = y
  have hyt : y ≠ ⊤ := hy ▸ ht k
  induction y using EReal.rec with
  | bot => simp [sub_eq_add_neg]
  | coe r =>
    rw [← EReal.coe_sub, ← EReal.coe_sub, ← EReal.coe_sub, ← EReal.coe_neg, EReal.coe_eq_coe_iff]
    ring
  | top => exact absurd rfl hyt

end Cert.Loss

end
-- ==== Proof.Reference.lean ====
/-
  What the reference computes, at an index: its target words, its log-softmax, the loss of one pixel, and the mean.
-/
module

public import proofs.«01_k».proof.Proof.Gen.ReferenceIdeal.Read
public import proofs.«01_k».proof.Proof.Math.Reads
public import proofs.«01_k».proof.Proof.Math.Softmax
public import proofs.«01_k».proof.Proof.Math.Target
public import Idealize.ShloMosaic.Lib.ReduceAll

@[expose] public section

set_option maxRecDepth 16384

noncomputable section

namespace Cert.ReferenceIdeal.Loss

open Idealize.ShloMosaic Cert.Loss
open Cert.ReferenceIdeal Cert.ReferenceIdeal.Read Cert.ReferenceIdeal.Gen

variable (x0 : (⟨S512x3x8192, .f32⟩ : BufTy).Contents (Elt Ideal)) (x1 : (⟨S512x8, .i32⟩ : BufTy).Contents (Elt Ideal))
  (x2 : (⟨S512x8x8192, .i32⟩ : BufTy).Contents (Elt Ideal)) (b : Fin 512) (s : Fin 8192)

theorem cmpi_ne (x y : BitVec 32) : IntOp.cmpi .ne x y = if x ≠ y then 1#1 else 0#1 := by
  by_cases h : x = y
  · simp [IntOp.cmpi, h]
  · have e : (x != y) = true := by simpa using h
    simp [IntOp.cmpi, e, h]

theorem cmpi_eq (x y : BitVec 32) : IntOp.cmpi .eq x y = if x = y then 1#1 else 0#1 := by
  by_cases h : x = y
  · simp [IntOp.cmpi, h]
  · have e : (x == y) = false := by simpa using h
    simp [IntOp.cmpi, e, h]

theorem select_one {α : Type} (a c : α) : Scalar.select 1#1 a c = a := rfl

theorem select_zero {α : Type} (a c : α) : Scalar.select 0#1 a c = c := rfl

/-- The masked class of object `t` at a pixel. -/
theorem masked_at (t : Fin 8) : val_main_v8 (F := Ideal) x1 x2 (ix3 b t s)
    = if x1 (ix2 b t) ≠ fill ∧ x2 (ix3 b t s) = 1#32 then x1 (ix2 b t) else fill := by
  have e1 : idx_main_v2 (idx_main_v5 (ix3 b t s)) = ix2 b t := by
    funext a; match a with | ⟨0, _⟩ => rfl | ⟨1, _⟩ => rfl
  have e2 : idx_main_v7 (idx_main_call0_v1 (ix3 b t s)) = ix2 b t := by
    funext a; match a with | ⟨0, _⟩ => rfl | ⟨1, _⟩ => rfl
  rw [val_main_v8_apply, val_main_v6_apply, val_main_v5_apply, val_main_v2_apply, val_main_v1_apply, val_main_v4_apply,
    val_main_v3_apply, val_main_v0_apply, val_main_call0_v1_apply, val_main_v7_apply, val_main_call0_v2_apply, e1, e2]
  show Scalar.select (IntOp.andi (IntOp.cmpi .ne (x1 (ix2 b t)) fill) (IntOp.cmpi .eq (x2 (ix3 b t s)) 1#32)) (x1 (ix2 b t)) fill = _
  generalize x1 (ix2 b t) = v
  generalize x2 (ix3 b t s) = w
  rw [cmpi_ne, cmpi_eq]
  by_cases h1 : v = fill <;> by_cases h2 : w = 1#32 <;> simp [Scalar.select, IntOp.andi, h1, h2]

/-- The target word of a pixel: the greatest masked class. -/
theorem word_at : val_main_v9 (F := Ideal) x1 x2 (ix2 b s)
    = Finset.univ.fold IntOp.maxsi 2147483648#32
      fun t => if x1 (ix2 b t) ≠ fill ∧ x2 (ix3 b t s) = 1#32 then x1 (ix2 b t) else fill := by
  unfold val_main_v9
  refine (reduce_mid IntOp.maxsi (val_main_v8 (F := Ideal) x1 x2) _ _ _ b s).trans ?_
  exact Finset.fold_congr fun t _ => masked_at x1 x2 b s t

/-- The greatest logit of a pixel. -/
theorem max_at : val_main_call1_v2 (F := Ideal) x0 (ix2 b s) = greatest fun k => x0 (ix3 b k s) := by
  rw [val_main_call1_v2_apply, val_main_call1_v1_apply, val_main_call1_cst_0_apply, ofBits_neg_inf, maximumf_eq, max_bot_left]
  unfold val_main_call1_v0
  exact reduce_max x0 _ _ _ (by rw [val_main_call1_cst_apply, ofBits_neg_inf]) b s

/-- The log-softmax of a pixel at class `k`. -/
theorem logp_at (k : Fin 3) : val_main_v10 (F := Ideal) x0 (ix3 b k s)
    = (x0 (ix3 b k s) - greatest fun k => x0 (ix3 b k s))
      - Ideal.log (∑ i : Fin 3, Ideal.exp (x0 (ix3 b i s) - greatest fun k => x0 (ix3 b k s))) := by
  have e5 : ∀ k : Fin 3, val_main_call1_v5 (F := Ideal) x0 (ix3 b k s) = x0 (ix3 b k s) - greatest fun k => x0 (ix3 b k s) := by
    intro k
    have e : idx_main_call1_v3 (idx_main_call1_v4 (ix3 b k s)) = ix2 b s := by
      funext a; match a with | ⟨0, _⟩ => rfl | ⟨1, _⟩ => rfl
    rw [val_main_call1_v5_apply, val_main_call1_v4_apply, val_main_call1_v3_apply, e, max_at]
    rfl
  have e10 : idx_main_call1_v8 (idx_main_call1_v10 (ix3 b k s)) = ix2 b s := by
    funext a; match a with | ⟨0, _⟩ => rfl | ⟨1, _⟩ => rfl
  have e7 : ∀ i : Fin 3, idx_main_call1_v7 (ix2 b s) i = ix3 b i s := by
    intro i; funext a; match a with | ⟨0, _⟩ => rfl | ⟨1, _⟩ => rfl | ⟨2, _⟩ => rfl
  rw [val_main_v10_apply, e5, val_main_call1_v10_apply, val_main_call1_v9_apply, val_main_call1_v8_apply, e10,
    val_main_call1_v7_apply]
  have es : ∀ i : Fin 3, val_main_call1_v6 (F := Ideal) x0 (idx_main_call1_v7 (ix2 b s) i)
      = Ideal.exp (x0 (ix3 b i s) - greatest fun k => x0 (ix3 b k s)) := by
    intro i
    rw [e7, val_main_call1_v6_apply, e5]
    rfl
  rw [Finset.sum_congr rfl fun i _ => es i]
  have ez : val_main_call1_cst_1 (F := Ideal) (Shape.Idx.first h_S_) = (0 : EReal) := Ideal.ofBits_zero_f32
  rw [ez, zero_add]
  rfl

/-- The gather along the class axis reads, at a pixel, the class the index names. -/
theorem gather_at (x : S512x3x8192.Idx → EReal) (idx : IVec S512x1x8192x1 32) (k : Fin 3)
    (h : idx (ix4 b 0 s 0) = BitVec.ofNat 32 k.val) :
    Host.gather gather_S512x3x8192_S512x1x8192x1_S512x1x8192_n_1_02_02_1_3_111 x idx (ix3 b 0 s) = x (ix3 b k s) := by
  unfold Host.gather
  congr 1
  funext a
  refine Fin.ext ?_
  show GatherDims.start gather_S512x3x8192_S512x1x8192x1_S512x1x8192_n_1_02_02_1_3_111 (ix3 b 0 s) idx a
    + GatherDims.batchCoord gather_S512x3x8192_S512x1x8192x1_S512x1x8192_n_1_02_02_1_3_111 (ix3 b 0 s) a
    + GatherDims.offCoord gather_S512x3x8192_S512x1x8192x1_S512x1x8192_n_1_02_02_1_3_111 (ix3 b 0 s) a = _
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.start_batching _ _ _ _ (by decide), GatherDims.offCoord_eq_zero _ _ _ (by decide), Nat.zero_add, Nat.add_zero]
    unfold GatherDims.batchCoord
    rw [dif_pos (by decide)]
    rfl
  · rw [GatherDims.batchCoord_eq_zero _ _ _ (by decide), GatherDims.offCoord_eq_zero _ _ _ (by decide), Nat.add_zero]
    unfold GatherDims.start
    rw [dif_pos (by decide)]
    have hsi : ∀ q hq, gather_S512x3x8192_S512x1x8192x1_S512x1x8192_n_1_02_02_1_3_111.siIdx (ix3 b 0 s) ⟨q, hq⟩ = ix4 b 0 s 0 := by
      intro q hq
      funext c
      match c with
      | ⟨0, _⟩ => rfl
      | ⟨1, _⟩ => rfl
      | ⟨2, _⟩ => rfl
      | ⟨3, _⟩ => exact Subsingleton.elim (α := Fin 1) _ _
    rw [hsi, h]
    match k with
    | ⟨0, _⟩ => rfl
    | ⟨1, _⟩ => rfl
    | ⟨2, _⟩ => rfl
  · rw [GatherDims.start_batching _ _ _ _ (by decide), GatherDims.offCoord_eq_zero _ _ _ (by decide), Nat.zero_add, Nat.add_zero]
    unfold GatherDims.batchCoord
    rw [dif_pos (by decide)]
    rfl

/-! ## The loss of a pixel, given its target -/

section Pixel

variable {x1 x2 b s} (o : Option (Fin 3)) (hw : val_main_v9 (F := Ideal) x1 x2 (ix2 b s) = word o)

include hw

/-- A pixel is valid when it has a target. -/
theorem valid_at : val_main_v12 (F := Ideal) x1 x2 (ix2 b s) = if o.isSome then 1#1 else 0#1 := by
  rw [val_main_v12_apply, val_main_v11_apply, val_main_c_3_apply, hw]
  clear hw
  revert o
  decide

/-- The count's word of a pixel. -/
theorem count_at : val_main_v18 (F := Ideal) x1 x2 (ix2 b s) = BitVec.ofNat 32 (if o.isSome then 1 else 0) := by
  rw [val_main_v18_apply, valid_at o hw]
  cases o <;> rfl

/-- The class the gather reads at a pixel with target `k`. -/
theorem index_at (k : Fin 3) (hk : o = some k) :
    val_main_call3_v5 (F := Ideal) x1 x2 (ix4 b 0 s 0) = BitVec.ofNat 32 k.val := by
  subst hk
  have e : idx_main_call3_v5 (ix4 b 0 s 0) = ix3 b 0 s := by
    funext a
    match a with
    | ⟨0, _⟩ => exact Fin.ext (by show (((b.val * 1 + 0) * 8192 + s.val) * 1 + 0) / 8192 = b.val; omega)
    | ⟨1, _⟩ => rfl
    | ⟨2, _⟩ => exact Fin.ext (by show (((b.val * 1 + 0) * 8192 + s.val) * 1 + 0) % 8192 = s.val; omega)
  have e14 : idx_main_v14 (ix3 b 0 s) = ix2 b s := by
    funext a; match a with | ⟨0, _⟩ => rfl | ⟨1, _⟩ => rfl
  have h14 : val_main_v14 (F := Ideal) x1 x2 (ix3 b 0 s) = BitVec.ofNat 32 k.val := by
    rw [val_main_v14_apply, e14, val_main_v13_apply, valid_at _ hw, hw]
    rfl
  clear hw
  rw [val_main_call3_v5_apply, e, val_main_call3_v4_apply, val_main_call3_v1_apply, val_main_call3_v3_apply, h14,
    val_main_call3_v0_apply, val_main_call3_v2_apply, val_main_call3_c_apply, val_main_call3_c_0_apply]
  clear h14
  revert k
  decide

/-- That class is in range. -/
theorem inRange_at (k : Fin 3) (hk : o = some k) : val_main_call3_v12 (F := Ideal) x1 x2 (ix3 b 0 s) = 1#1 := by
  unfold val_main_call3_v12
  refine (reduce_last IntOp.andi (val_main_call3_v11 (F := Ideal) x1 x2) _ _ _ b 0 s).trans ?_
  rw [val_main_call3_v11_apply, val_main_call3_v7_apply, val_main_call3_v10_apply, index_at o hw k hk, val_main_call3_v6_apply,
    val_main_call3_v9_apply, val_main_call3_v8_apply, val_main_call3_c_1_apply, val_main_call3_c_2_apply,
    val_main_call3_c_3_apply]
  clear hk hw
  revert k
  decide

/-- The reference's loss of a pixel is its cross entropy at the target, when the greatest logit is a real number. -/
theorem loss_at (M : ℝ) (hM : (greatest fun k => x0 (ix3 b k s)) = (M : EReal)) :
    val_main_v22 (F := Ideal) x0 x1 x2 (ix2 b s) = pixelLoss (fun k => x0 (ix3 b k s)) o := by
  rw [val_main_v22_apply, valid_at o hw]
  cases ho : o with
  | none =>
    rw [val_main_call4_v1_apply, val_main_call4_v0_apply, val_main_cst_apply, if_neg (by decide), select_zero]
    exact Ideal.ofBits_zero_f32
  | some k =>
    have e : idx_main_v16 (ix2 b s) = ix3 b 0 s := by
      funext a
      match a with
      | ⟨0, _⟩ => exact Fin.ext (by show (b.val * 8192 + s.val) / 8192 = b.val; omega)
      | ⟨1, _⟩ => rfl
      | ⟨2, _⟩ => exact Fin.ext (by show (b.val * 8192 + s.val) % 8192 = s.val; omega)
    have h13 : val_main_call3_v13 (F := Ideal) x0 x1 x2 (ix3 b 0 s) = val_main_v10 (F := Ideal) x0 (ix3 b k s) := by
      unfold val_main_call3_v13
      exact gather_at b s _ _ k (index_at o hw k ho)
    rw [val_main_v17_apply, val_main_v16_apply, e, val_main_v15_apply, inRange_at o hw k ho, h13, if_pos (Option.isSome_some (a := k)), select_one,
      select_one, logp_at, hM]
    obtain ⟨hle, hex⟩ := greatest_real _ M hM
    exact (nll_eq (fun k => x0 (ix3 b k s)) M hle hex k).symm

end Pixel

/-! ## The mean -/

/-- The reference's result is the mean of the cross entropies at the targets. -/
theorem mean (o : Fin 512 → Fin 8192 → Option (Fin 3)) (hw : ∀ b s, val_main_v9 (F := Ideal) x1 x2 (ix2 b s) = word (o b s))
    (hM : ∀ b s, ∃ M : ℝ, (greatest fun k => x0 (ix3 b k s)) = (M : EReal)) (i : S_.Idx) :
    val_main_v24 (F := Ideal) x0 x1 x2 i = meanLoss (fun b s k => x0 (ix3 b k s)) o := by
  have hnum : val_main_v23 (F := Ideal) x0 x1 x2 i = ∑ b, ∑ s, pixelLoss (fun k => x0 (ix3 b k s)) (o b s) := by
    rw [val_main_v23_apply, show val_main_cst_7 (F := Ideal) (Shape.Idx.first h_S_) = (0 : EReal) from Ideal.ofBits_zero_f32,
      zero_add, ValueIdx.sum_idx2]
    refine Finset.sum_congr rfl fun b _ => Finset.sum_congr rfl fun s _ => ?_
    obtain ⟨M, h⟩ := hM b s
    exact loss_at x0 (o b s) (hw b s) M h
  let f : S512x8192.Idx → Nat := fun j => if (o (j 0) (j 1)).isSome then 1 else 0
  have hN : ∑ j, f j < 2 ^ 31 :=
    lt_of_le_of_lt (sum_bits_le f fun j => by show (if _ then 1 else 0) ≤ 1; split <;> decide) (by norm_num)
  have h19 : val_main_v19 (F := Ideal) x1 x2 i = BitVec.ofNat 32 (∑ j, f j) := by
    unfold val_main_v19
    refine reduce_words rfl (val_main_v18 (F := Ideal) x1 x2) f (fun j => ?_) _ _ _ rfl i
    have ej : j = ix2 (j 0) (j 1) := by funext a; match a with | ⟨0, _⟩ => rfl | ⟨1, _⟩ => rfl
    rw [ej]
    exact count_at _ (hw _ _)
  have hcount : ((∑ j, f j : Nat) : EReal) = ∑ b, ∑ s, pixelCount (o b s) := by
    rw [Nat.cast_sum, ValueIdx.sum_idx2]
    refine Finset.sum_congr rfl fun b _ => Finset.sum_congr rfl fun s _ => ?_
    show (((if (o b s).isSome then 1 else 0 : Nat)) : EReal) = _
    cases o b s <;> simp [pixelCount]
  have hden : val_main_v21 (F := Ideal) x1 x2 i = max (∑ b, ∑ s, pixelCount (o b s)) 1 := by
    rw [val_main_v21_apply, val_main_v20_apply, val_main_c_6_apply, h19]
    show (((IntOp.maxsi (BitVec.ofNat 32 (∑ j, f j)) 1#32).toInt : ℝ) : EReal) = _
    rw [maxsi_count _ hN, ← hcount, Int.cast_natCast, EReal.coe_natCast, cast_max_one]
  rw [val_main_v24_apply, hnum, hden]
  rfl

end Cert.ReferenceIdeal.Loss

end
-- ==== Proof.Kernel.Cases.lean ====
/-
  What one grid point of the kernel leaves behind, in each of the three cases of its conditionals: the first point
  (the two accumulators are reset), a middle point, and the last point (the quotient is stored).
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Loss

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

/-- Class plane `0` of a block of logits, as the kernel loads it. -/
def plane0 (x : Vec F S3x32x8192 .f32) : Vec F S1x32x8192 .f32 :=
  View.ld x (Rect.unit (s := S3x32x8192) ![0, 0, 0] S1x32x8192.size inb_S3x32x8192_S1x32x8192_0_0_0)

/-- Class plane `1` of a block of logits. -/
def plane1 (x : Vec F S3x32x8192 .f32) : Vec F S1x32x8192 .f32 :=
  View.ld x (Rect.unit (s := S3x32x8192) ![1, 0, 0] S1x32x8192.size inb_S3x32x8192_S1x32x8192_1_0_0)

/-- Class plane `2` of a block of logits. -/
def plane2 (x : Vec F S3x32x8192 .f32) : Vec F S1x32x8192 .f32 :=
  View.ld x (Rect.unit (s := S3x32x8192) ![2, 0, 0] S1x32x8192.size inb_S3x32x8192_S1x32x8192_2_0_0)

/-- The loss accumulator after a point, from its contents `s` before: `s` plus the point's row sums. -/
def lossStep (i : grid0.Coords) (x0 : Vec F S3x32x8192 .f32) (x1 : Vec F S8x512 .i32) (x2 : Vec F S32x8x8192 .i32)
    (s : Vec F S32x1 .f32) : Vec F S32x1 .f32 :=
  k0_pay8 (k0_pay4 i x1 x2) (k0_pay5 (plane0 x0)) (k0_pay6 (plane1 x0)) (plane2 x0) s

/-- The count accumulator after a point, from its contents `s` before. -/
def countStep (i : grid0.Coords) (x1 : Vec F S8x512 .i32) (x2 : Vec F S32x8x8192 .i32) (s : Vec F S32x1 .f32) :
    Vec F S32x1 .f32 :=
  k0_pay9 (k0_pay4 i x1 x2) s

variable (c : Dev nD) (i : grid0.Coords) (a1 : Memref sig .tc .vmem S3x32x8192 .f32) (h1 : a1.IsWhole)
  (a2 : Memref sig .tc .vmem S8x512 .i32) (h2 : a2.IsWhole) (a3 : Memref sig .tc .vmem S32x8x8192 .i32) (h3 : a3.IsWhole)
  (a4 : Memref sig .tc .vmem S1x1 .f32) (h4 : a4.IsWhole) (a5 : Memref sig .tc .vmem S32x1 .f32) (h5 : a5.IsWhole)
  (a6 : Memref sig .tc .vmem S32x1 .f32) (h6 : a6.IsWhole)
  (x0 : Vec F S3x32x8192 .f32) (x1 : Vec F S8x512 .i32) (x2 : Vec F S32x8x8192 .i32) (s0 s1 : Vec F S32x1 .f32)

/-- First point: the loss accumulator is the point's step from zero. -/
theorem first_loss (hc0 : cond0_0 i) (hc1 : ¬cond0_1 i) :
    sout0_A_0 c i a1 h1 a2 h2 a3 h3 a4 h4 a5 h5 a6 h6 hc0 hc1 x0 x1 x2 = lossStep i x0 x1 x2 k0_pay2 := by
  unfold sout0_A_0
  rw [View.read_writes_eq_canon _ _ _ (scover0_A_0 c i a1 h1 a2 h2 a3 h3 a4 h4 a5 h5 a6 h6 hc0 hc1 x0 x1 x2)]
  unfold kernelRun0_A
  dsimp only
  sl_unfold_words
  rw [View.canon_cons_unit_zero (S := S32x1) hz2, View.readCov_unit_zero (S := S32x1) _ hz2]
  simp only [View.readAt_eq_ld, h1.read_unread, h2.read_unread, h3.read_unread, View.ld_unit_zero (S := S8x512) hz2,
    View.ld_unit_zero (S := S32x8x8192) hz3]
  rfl

/-- First point: the count accumulator is the point's step from zero. -/
theorem first_count (hc0 : cond0_0 i) (hc1 : ¬cond0_1 i) :
    sout0_A_1 c i a1 h1 a2 h2 a3 h3 a4 h4 a5 h5 a6 h6 hc0 hc1 x0 x1 x2 = countStep i x1 x2 k0_pay3 := by
  unfold sout0_A_1
  rw [View.read_writes_eq_canon _ _ _ (scover0_A_1 c i a1 h1 a2 h2 a3 h3 a4 h4 a5 h5 a6 h6 hc0 hc1 x0 x1 x2)]
  unfold kernelRun0_A
  dsimp only
  sl_unfold_words
  rw [View.canon_cons_unit_zero (S := S32x1) hz2, View.readCov_unit_zero (S := S32x1) _ hz2]
  simp only [View.readAt_eq_ld, h1.read_unread, h2.read_unread, h3.read_unread, View.ld_unit_zero (S := S8x512) hz2,
    View.ld_unit_zero (S := S32x8x8192) hz3]
  rfl

/-- Middle point: the loss accumulator takes the point's step. -/
theorem middle_loss (hc0 : ¬cond0_0 i) (hc1 : ¬cond0_1 i) :
    sout0_B_0 c i a1 h1 a2 h2 a3 h3 a4 h4 a5 h5 a6 h6 hc0 hc1 x0 x1 x2 s0 s1 = lossStep i x0 x1 x2 s0 := by
  unfold sout0_B_0
  rw [View.read_writes_eq_canon _ _ _ (scover0_B_0 c i a1 h1 a2 h2 a3 h3 a4 h4 a5 h5 a6 h6 hc0 hc1 x0 x1 x2 s0 s1)]
  unfold kernelRun0_B
  dsimp only
  sl_unfold_words
  rw [View.canon_unit_zero (S := S32x1) hz2]
  simp only [View.readAt_eq_ld, h1.read_unread, h2.read_unread, h3.read_unread, h5.read_unread,
    View.ld_unit_zero (S := S8x512) hz2, View.ld_unit_zero (S := S32x8x8192) hz3, View.ld_unit_zero (S := S32x1) hz2]
  rfl

/-- Middle point: the count accumulator takes the point's step. -/
theorem middle_count (hc0 : ¬cond0_0 i) (hc1 : ¬cond0_1 i) :
    sout0_B_1 c i a1 h1 a2 h2 a3 h3 a4 h4 a5 h5 a6 h6 hc0 hc1 x0 x1 x2 s0 s1 = countStep i x1 x2 s1 := by
  unfold sout0_B_1
  rw [View.read_writes_eq_canon _ _ _ (scover0_B_1 c i a1 h1 a2 h2 a3 h3 a4 h4 a5 h5 a6 h6 hc0 hc1 x0 x1 x2 s0 s1)]
  unfold kernelRun0_B
  dsimp only
  sl_unfold_words
  rw [View.canon_unit_zero (S := S32x1) hz2]
  simp only [View.readAt_eq_ld, h1.read_unread, h2.read_unread, h3.read_unread, h6.read_unread,
    View.ld_unit_zero (S := S8x512) hz2, View.ld_unit_zero (S := S32x8x8192) hz3, View.ld_unit_zero (S := S32x1) hz2]
  rfl

/-- Last point: the output is the quotient of the two accumulators, each after the point's step. -/
theorem last_out (hc0 : ¬cond0_0 i) (hc1 : cond0_1 i) :
    out0_C_3 c i a1 h1 a2 h2 a3 h3 a4 h4 a5 h5 a6 h6 hc0 hc1 x0 x1 x2 s0 s1
      = k0_pay1 (lossStep i x0 x1 x2 s0) (countStep i x1 x2 s1) := by
  unfold out0_C_3
  rw [View.read_writes_eq_canon _ _ _ (cover0_C_3 c i a1 h1 a2 h2 a3 h3 a4 h4 a5 h5 a6 h6 hc0 hc1 x0 x1 x2 s0 s1)]
  unfold kernelRun0_C
  dsimp only
  sl_unfold_words
  rw [View.canon_unit_zero (S := S1x1) hz2]
  simp only [View.readCov_unit_zero (S := S32x1) _ hz2, View.readAt_eq_ld, h1.read_unread, h2.read_unread,
    h3.read_unread, h5.read_unread, h6.read_unread,
    View.ld_unit_zero (S := S8x512) hz2, View.ld_unit_zero (S := S32x8x8192) hz3, View.ld_unit_zero (S := S32x1) hz2]
  rfl

end Cert.KernelIdeal.Loss

end
-- ==== Proof.Kernel.Array.lean ====
/-
  What the result of the kernel's program holds after a run: the quotient of the two accumulators after the last of the
  sixteen grid points. Each accumulator is a recursion over the points; the output window is written back once, at the
  last point, and the host's reshape after the kernel reads that one element.
-/
module

public import proofs.«01_k».proof.Proof.Kernel.Cases

@[expose] public section

set_option maxRecDepth 16384

noncomputable section

namespace Cert.KernelIdeal.Loss

open Idealize.ShloMosaic Idealize.ShloMosaic.TcCoe Idealize.SL.Sem
open Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- The loss accumulator after point `n`. -/
def lossAt (c : Dev nD) : (n : ℕ) → n < cfg0.N → Vec F S32x1 .f32
  | 0, h => lossStep (grid0.coords ⟨0, h⟩) (iblk m c 0 ⟨0, h⟩) (iblk m c 1 ⟨0, h⟩) (iblk m c 2 ⟨0, h⟩) k0_pay2
  | n + 1, h => lossStep (grid0.coords ⟨n + 1, h⟩) (iblk m c 0 ⟨n + 1, h⟩) (iblk m c 1 ⟨n + 1, h⟩) (iblk m c 2 ⟨n + 1, h⟩)
      (lossAt c n (Nat.lt_of_succ_lt h))

/-- The count accumulator after point `n`. -/
def countAt (c : Dev nD) : (n : ℕ) → n < cfg0.N → Vec F S32x1 .f32
  | 0, h => countStep (grid0.coords ⟨0, h⟩) (iblk m c 1 ⟨0, h⟩) (iblk m c 2 ⟨0, h⟩) k0_pay3
  | n + 1, h => countStep (grid0.coords ⟨n + 1, h⟩) (iblk m c 1 ⟨n + 1, h⟩) (iblk m c 2 ⟨n + 1, h⟩)
      (countAt c n (Nat.lt_of_succ_lt h))

/-- Before the last point, the carried accumulators are these two recursions. -/
theorem carried (c : Dev nD) : ∀ (n : ℕ) (h : n < cfg0.N), n < 15 →
    (outsAt0 m c n h).2.1 = lossAt m c n h ∧ (outsAt0 m c n h).2.2 = countAt m c n h
  | 0, h, _ => by
    have e := outsAt0_A m c ⟨0, h⟩ (Nat.zero_mod _) (by show ¬0 % 16 = 15; decide)
    change outsAt0 m c 0 h = _ at e
    rw [e]
    dsimp only
    rw [first_loss, first_count]
    exact ⟨rfl, rfl⟩
  | n + 1, h, hn => by
    obtain ⟨i1, i2⟩ := carried c n (Nat.lt_of_succ_lt h) (by omega)
    have e := outsAt0_B m c ⟨n + 1, h⟩ (by dsimp only; omega) (by dsimp only; omega)
    change outsAt0 m c (n + 1) h = _ at e
    rw [e]
    constructor
    · dsimp only
      rw [middle_loss]
      show lossStep _ _ _ _ (outsAt0 m c n _).2.1 = lossStep _ _ _ _ (lossAt m c n _)
      rw [i1]
    · dsimp only
      rw [middle_count]
      show countStep _ _ _ (outsAt0 m c n _).2.2 = countStep _ _ _ (countAt m c n _)
      rw [i2]

theorem lt15 : 15 < cfg0.N := lt_of_lt_of_eq (by decide) N_0.symm

/-- What the last point stores: the quotient of the accumulators. -/
def quotient (c : Dev nD) : Vec F S1x1 .f32 := k0_pay1 (lossAt m c 15 lt15) (countAt m c 15 lt15)

theorem last_eq (c : Dev nD) : (outsAt0 m c 15 lt15).1 = quotient m c := by
  have e := outsAt0_C m c ⟨15, lt15⟩ (by decide) (by decide)
  change outsAt0 m c 15 lt15 = _ at e
  rw [e]
  dsimp only
  rw [last_out]
  obtain ⟨i1, i2⟩ := carried m c 14 (Nat.lt_of_succ_lt lt15) (by decide)
  show k0_pay1 (lossStep _ _ _ _ (outsAt0 m c 14 _).2.1) (countStep _ _ _ (outsAt0 m c 14 _).2.2) = _
  rw [i1, i2]
  rfl

/-- The one index of a `1 × 1` array. -/
theorem idx11 (i j : S1x1.Idx) : i = j := by
  funext a
  match a with
  | ⟨0, _⟩ => exact Subsingleton.elim (α := Fin 1) _ _
  | ⟨1, _⟩ => exact Subsingleton.elim (α := Fin 1) _ _

/-- The write-back of the last point writes the quotient. -/
theorem flushed_quotient (c : Dev nD) (t : Fin cfg0.N) (hf : (cfg0.win 3).flush t = true) :
    (dats m 0 c).flushed 3 t = ((cfg0.win 3).blk t).view.read (Elt F) (quotient m c) := by
  have hN : cfg0.N = 16 := N_0
  have h15 : t.val = 15 := by have := (flush0_3 t).mp hf; have := t.isLt; omega
  obtain rfl : t = ⟨15, lt15⟩ := Fin.ext h15
  show (cfg0.win 3).cut (grid0.coords _) ((dats m 0 c).after 3 _) = _
  rw [after0_3, last_eq]
  funext j
  rw [View.read_apply]
  show quotient m c _ = quotient m c _
  exact congrArg _ (idx11 _ _)

/-- The block of window 3 at a point is the rectangle of its index. -/
theorem mem_out (t : Fin cfg0.N) (i : S1x1.Idx) : i ∈ ((cfg0.win 3).blk t).view.set ↔
    ∀ a : Fin 2, win0_3.index t a * S1x1.size a ≤ (i a).val ∧ (i a).val < win0_3.index t a * S1x1.size a + S1x1.size a := by
  show i ∈ ((View.whole main_v2).slice (win0_3.rect t)).set ↔ _
  rw [View.set_slice_whole, Rect.mem_set_unit]
  exact Iff.rfl

theorem out_index : ∀ t : Fin cfg0.N, win0_3.index t 0 = 0 ∧ win0_3.index t 1 = 0 := by decide +kernel

/-- So the array of window 3 ends holding the quotient. -/
theorem array_eq (c : Dev nD) : (dats m 0 c).arrAt 3 cfg0.N = quotient m c :=
  (dats m 0 c).arrAt_eq_of_cover 3 (quotient m c) (flushed_quotient m c) fun i =>
    ⟨⟨15, lt15⟩, (flush0_3 _).mpr (by decide), by
      rw [mem_out]
      obtain ⟨e0, e1⟩ := out_index ⟨15, lt15⟩
      have h0 : (i 0).val < 1 := (i 0).isLt
      have h1 : (i 1).val < 1 := (i 1).isLt
      intro a
      match a with
      | ⟨0, _⟩ => show win0_3.index _ 0 * 1 ≤ (i 0).val ∧ (i 0).val < win0_3.index _ 0 * 1 + 1; rw [e0]; omega
      | ⟨1, _⟩ => show win0_3.index _ 1 * 1 ≤ (i 1).val ∧ (i 1).val < win0_3.index _ 1 * 1 + 1; rw [e1]; omega⟩

/-- The result: the quotient as a scalar. -/
def result (c : Dev nD) : Buf (Elt F) ((c.tc : Thread nD τ).loc main_v3) :=
  shapeCast S_ (quotient m c) shapeCasts_S1x1_S_

/-- The host's reshape after the kernel reads the quotient. -/
theorem tail_eq (c : Dev nD) : Pipeline.afterTail₀ cfgs (dats m) 0 (V0 m) [hostOps1] c main_v3 = result m c := by
  have e : Pipeline.withArrays (cfgs (0 : Fin 1)).spec c (V0 m c) (fun w => (dats m 0 c).arrAt w (cfgs (0 : Fin 1)).N)
      (Proc.devRef .tc main_v2) = quotient m c :=
    (Pipeline.withArrays_arr (cfgs (0 : Fin 1)).spec (by decide) c (V0 m c)
      (fun w => (dats m 0 c).arrAt w (cfgs (0 : Fin 1)).N) 3).trans (array_eq m c)
  unfold Pipeline.afterTail₀ result
  rw [← e]
  generalize Pipeline.withArrays (cfgs (0 : Fin 1)).spec c (V0 m c) (fun w => (dats m 0 c).arrAt w (cfgs (0 : Fin 1)).N) = W
  show StableHlo.after hostOps1 W (Proc.devRef .tc main_v3) = _
  after_results
  rfl

/-- The run: the result is the quotient, the arguments are unchanged. -/
theorem run : θ_run defs (onTc (τ := τ) (main (F := F))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨((h.1 c).2 main_v3 (Pipeline.mem_restRefs_of main_v3 (by decide) (by decide))).trans (tail_eq m c), h.2 c⟩)
    (θ_run_and (run_main m ρ) (unchanged m ρ))

end Cert.KernelIdeal.Loss

end
-- ==== Proof.Kernel.Block.lean ====
/-
  What one grid point computes, at a row and a pixel of its block, over the exact numbers: the weighted mask sum, the
  step of each accumulator, and the last quotient.
-/
module

public import proofs.«01_k».proof.Proof.Kernel.Array
public import proofs.«01_k».proof.Proof.Math.Target
public import Idealize.ShloMosaic.Lib.Pointwise

@[expose] public section

set_option maxRecDepth 16384

noncomputable section

namespace Cert.KernelIdeal.Loss

open Idealize.ShloMosaic Idealize.ShloMosaic.TcCoe Idealize.SL.Sem Cert.Loss
open Cert.KernelIdeal Cert.KernelIdeal.Gen

section Payload

variable {F : FTy → Type} [FloatOps F]

/-- The classes of the 32 rows of a point: the product of the rows' indicator with the transposed classes. -/
def classes (i : grid0.Coords) (x1 : Vec F S8x512 .i32) : FVec F S32x8 .f32 :=
  matmul dot_S512x32_S8x512_S32x8_0_1_1_0_n_n none
    (sitofp .f32 (extui 32 (cmpi .eq (iota .tc S512x32 32 [0] iota_S512x32_d0_w32)
      (addi (iota .tc S512x32 32 [1] iota_S512x32_d1_w32) (broadcast S512x32 (Scalar.muli 32#32 (BitVec.ofNat 32 (i 0).val))))) natLt_1_32))
    (sitofp .f32 (shapeCast S8x512 x1 shapeCasts_S8x512_S8x512)) (constant S32x8 .f32 0x00000000#32)

/-- The weight of a class: zero at the fill value, the class plus four elsewhere. -/
def weights (v : FVec F S32x8 .f32) : FVec F S32x8 .f32 :=
  select (cmpf .oeq v (broadcast S32x8 (Scalar.ofBits .f32 0xC2C80000#32)))
    (broadcast S32x8 (Scalar.ofBits .f32 0x00000000#32)) (addf v (broadcast S32x8 (Scalar.ofBits .f32 0x40800000#32)))

/-- 32 copies of the weights side by side. -/
def copies (w : FVec F S32x8 .f32) : FVec F S32x256 .f32 :=
  concatenate S32x256 1 (List.replicate 32 ⟨S32x8, w⟩) concatenates_S32x8_S32x8_S32x8_S32x8_S32x8_S32x8_S32x8_S32x8_S32x8_S32x8_S32x8_S32x8_S32x8_S32x8_S32x8_S32x8_S32x8_S32x8_S32x8_S32x8_S32x8_S32x8_S32x8_S32x8_S32x8_S32x8_S32x8_S32x8_S32x8_S32x8_S32x8_S32x8_S32x256_d1

/-- The weighted mask sum is a product: the copies, cleared off the block diagonal, times the masks of the 32 rows. -/
theorem pay4_eq (i : grid0.Coords) (x1 : Vec F S8x512 .i32) (x2 : Vec F S32x8x8192 .i32) :
    k0_pay4 i x1 x2 = matmul dot_S32x256_S256x8192_S32x8192_1_0_0_1_n_n none
      (select (cmpi .eq (shrsi (iota .tc S32x256 32 [1] iota_S32x256_d1_w32) (broadcast S32x256 3#32))
        (iota .tc S32x256 32 [0] iota_S32x256_d0_w32)) (copies (weights (classes i x1)))
        (broadcast S32x256 (Scalar.ofBits .f32 0x00000000#32)))
      (sitofp .f32 (shapeCast S256x8192 x2 shapeCasts_S32x8x8192_S256x8192)) (constant S32x8192 .f32 0x00000000#32) := rfl

theorem copies_at (w : FVec F S32x8 .f32) (r : Fin 32) (k : Fin 256) :
    copies w (ix2 r k) = w (ix2 r ⟨k.val % 8, Nat.mod_lt _ (by decide)⟩) := by
  unfold copies
  refine concatenate_replicate_apply (s₁ := S32x8) (t := S32x256) 1 32 w _ rfl (ix2 r k) (ix2 r ⟨k.val % 8, Nat.mod_lt _ (by decide)⟩) rfl ?_
  intro b hb
  match b with
  | ⟨0, _⟩ => rfl
  | ⟨1, _⟩ => exact absurd rfl hb

end Payload

theorem ofBits_4 : Ideal.ofBits .f32 1082130432#32 = ((4 : ℝ) : EReal) := by
  simp [Ideal.ofBits, Ideal.ieee, -EReal.coe_mul]; norm_num

theorem ofBits_5 : Ideal.ofBits .f32 1084227584#32 = ((5 : ℝ) : EReal) := by
  simp [Ideal.ofBits, Ideal.ieee, -EReal.coe_mul]; norm_num

theorem ofBits_6 : Ideal.ofBits .f32 1086324736#32 = ((6 : ℝ) : EReal) := by
  simp [Ideal.ofBits, Ideal.ieee, -EReal.coe_mul]; norm_num

theorem ofBits_half : Ideal.ofBits .f32 1056964608#32 = ((1 / 2 : ℝ) : EReal) := by
  simp [Ideal.ofBits, Ideal.ieee, -EReal.coe_mul]; norm_num

theorem ofBits_fill : Ideal.ofBits .f32 3267887104#32 = ((-100 : ℝ) : EReal) := by
  simp [Ideal.ofBits, Ideal.ieee, -EReal.coe_mul]; norm_num

/-- The row indicator of a point, as a word comparison. -/
theorem row_eq (n : Fin 512) (r : Fin 32) (i : ℕ) (hi : i < 16) :
    IntOp.cmpi .eq (BitVec.ofNat 32 n.val) (IntOp.addi (BitVec.ofNat 32 r.val) (Scalar.muli 32#32 (BitVec.ofNat 32 i)))
      = if n.val = 32 * i + r.val then 1#1 else 0#1 := by
  have hn := n.isLt
  have hr := r.isLt
  have e : IntOp.addi (BitVec.ofNat 32 r.val) (Scalar.muli 32#32 (BitVec.ofNat 32 i)) = BitVec.ofNat 32 (32 * i + r.val) := by
    show BitVec.ofNat 32 r.val + BitVec.ofNat 32 32 * BitVec.ofNat 32 i = _
    rw [← BitVec.ofNat_mul, ← BitVec.ofNat_add, Nat.add_comm]
  rw [e]
  by_cases h : n.val = 32 * i + r.val
  · rw [if_pos h, h]; simp [IntOp.cmpi]
  · rw [if_neg h]
    have : (BitVec.ofNat 32 n.val == BitVec.ofNat 32 (32 * i + r.val)) = false := by
      rw [beq_eq_false_iff_ne]
      intro he
      have := congrArg BitVec.toNat he
      rw [BitVec.toNat_ofNat, BitVec.toNat_ofNat] at this
      omega
    simp [IntOp.cmpi, this]

/-- The row of the whole arrays a row of a point's block is. -/
def rowOf (i : grid0.Coords) (r : Fin 32) : Fin 512 :=
  ⟨32 * (i 0).val + r.val, by have : (i 0).val < 16 := (i 0).isLt; omega⟩

/-- Row `r` of the product is row `32 i + r` of the classes. -/
theorem classes_at (i : grid0.Coords) (x1 : Vec Ideal S8x512 .i32) (r : Fin 32) (t : Fin 8) :
    classes i x1 (ix2 r t) = (((x1 (ix2 t (rowOf i r))).toInt : ℝ) : EReal) := by
  pointwise [classes]
  rw [Finset.sum_eq_single (rowOf i r)]
  · rw [row_eq _ r _ (i 0).isLt, if_pos (show (rowOf i r).val = 32 * (i 0).val + r.val from rfl)]
    show ((((1#1 : BitVec 1).setWidth 32).toInt : ℝ) : EReal) * _ = _
    rw [show ((1#1 : BitVec 1).setWidth 32).toInt = 1 by decide, Int.cast_one, EReal.coe_one, one_mul]
    rfl
  · intro n _ hn
    rw [row_eq n r _ (i 0).isLt, if_neg fun h : n.val = 32 * (i 0).val + r.val => hn (Fin.ext h)]
    show ((((0#1 : BitVec 1).setWidth 32).toInt : ℝ) : EReal) * _ = _
    rw [show ((0#1 : BitVec 1).setWidth 32).toInt = 0 by decide, Int.cast_zero, EReal.coe_zero, zero_mul]
  · exact fun h => absurd (Finset.mem_univ _) h

theorem weights_at (i : grid0.Coords) (x1 : Vec Ideal S8x512 .i32) (r : Fin 32) (t : Fin 8) :
    weights (classes i x1) (ix2 r t) = weight (x1 (ix2 t (rowOf i r))) := by
  pointwise [weights]
  rw [classes_at, ofBits_fill, ofBits_4]
  rfl

/-- The block diagonal, as a word comparison. -/
theorem block_eq : ∀ k : Fin 256, ∀ r : Fin 32,
    IntOp.cmpi .eq (IntOp.shrsi ArithUnit.vector (BitVec.ofNat 32 k.val) 3#32) (BitVec.ofNat 32 r.val)
      = if k.val / 8 = r.val then 1#1 else 0#1 := by decide +kernel

/-- The weighted mask sum of a row at a pixel. -/
theorem pay4_at (i : grid0.Coords) (x1 : Vec Ideal S8x512 .i32) (x2 : Vec Ideal S32x8x8192 .i32) (r : Fin 32) (s : Fin 8192) :
    k0_pay4 i x1 x2 (ix2 r s)
      = ∑ t : Fin 8, weight (x1 (ix2 t (rowOf i r))) * (((x2 (ix3 r t s)).toInt : ℝ) : EReal) := by
  rw [pay4_eq]
  generalize hC : copies (weights (classes i x1)) = C
  pointwise []
  subst hC
  have key : ∀ k : Fin 256, Scalar.select
        (IntOp.cmpi CmpIPredicate.eq (IntOp.shrsi ArithUnit.vector (BitVec.ofNat 32 k.val) 3#32) (BitVec.ofNat 32 r.val))
        (copies (weights (classes i x1)) (ix2 r k) * FloatOps.sitofp (F := Ideal) FTy.f32 (x2 (ix3 ⟨k.val / 8, by omega⟩ ⟨k.val % 8, by omega⟩ s))) 0
      = if k.val / 8 = r.val then weight (x1 (ix2 ⟨k.val % 8, by omega⟩ (rowOf i r)))
          * (((x2 (ix3 r ⟨k.val % 8, by omega⟩ s)).toInt : ℝ) : EReal) else 0 := by
    intro k
    rw [block_eq, copies_at, weights_at]
    by_cases h : k.val / 8 = r.val
    · rw [if_pos h, if_pos h]
      have e : (⟨k.val / 8, by omega⟩ : Fin 32) = r := Fin.ext h
      rw [e]
      rfl
    · rw [if_neg h, if_neg h]
      rfl
  refine (Finset.sum_congr rfl fun k _ => key k).trans ?_
  rw [← Finset.sum_filter]
  refine Finset.sum_bij' (fun k _ => ⟨k.val % 8, by omega⟩) (fun t _ => ⟨8 * r.val + t.val, by omega⟩) ?_ ?_ ?_ ?_ ?_
  · intro k _; exact Finset.mem_univ _
  · intro t _
    rw [Finset.mem_filter]
    exact ⟨Finset.mem_univ _, by show (8 * r.val + t.val) / 8 = r.val; omega⟩
  · intro k hk
    have h := (Finset.mem_filter.mp hk).2
    exact Fin.ext (by show 8 * r.val + k.val % 8 = k.val; omega)
  · intro t _
    exact Fin.ext (by show (8 * r.val + t.val) % 8 = t.val; omega)
  · intro k _; rfl

/-- The step of the loss accumulator at a row. -/
theorem lossStep_at (i : grid0.Coords) (x0 : Vec Ideal S3x32x8192 .f32) (x1 : Vec Ideal S8x512 .i32) (x2 : Vec Ideal S32x8x8192 .i32)
    (a : Vec Ideal S32x1 .f32) (r : Fin 32) (o : Fin 8192 → Option (Fin 3))
    (ho : ∀ s, k0_pay4 i x1 x2 (ix2 r s) = ((code (o s) : ℝ) : EReal)) :
    lossStep i x0 x1 x2 a (ix2 r 0) = a (ix2 r 0) + ∑ s, pixelLoss (fun k => x0 (ix3 k r s)) (o s) := by
  unfold lossStep
  generalize k0_pay4 i x1 x2 = q at ho
  pointwise [k0_pay8, k0_pay7, k0_pay5, k0_pay6, plane0, plane1, plane2]
  refine congrArg _ (Finset.sum_congr rfl fun s _ => ?_)
  rw [ho s, ofBits_half, ofBits_5, ofBits_6]
  match o s with
  | none => exact if_neg (by rw [EReal.coe_lt_coe_iff]; norm_num [code])
  | some ⟨0, _⟩ =>
    rw [if_pos (by rw [EReal.coe_lt_coe_iff]; norm_num [code]), if_neg (by rw [EReal.coe_eq_coe_iff]; norm_num [code]),
      if_neg (by rw [EReal.coe_eq_coe_iff]; norm_num [code])]
    rfl
  | some ⟨1, _⟩ =>
    rw [if_pos (by rw [EReal.coe_lt_coe_iff]; norm_num [code]), if_pos (by rw [EReal.coe_eq_coe_iff]; norm_num [code])]
    rfl
  | some ⟨2, _⟩ =>
    rw [if_pos (by rw [EReal.coe_lt_coe_iff]; norm_num [code]), if_neg (by rw [EReal.coe_eq_coe_iff]; norm_num [code]),
      if_pos (by rw [EReal.coe_eq_coe_iff]; norm_num [code])]
    rfl

/-- The step of the count accumulator at a row. -/
theorem countStep_at (i : grid0.Coords) (x1 : Vec Ideal S8x512 .i32) (x2 : Vec Ideal S32x8x8192 .i32)
    (a : Vec Ideal S32x1 .f32) (r : Fin 32) (o : Fin 8192 → Option (Fin 3))
    (ho : ∀ s, k0_pay4 i x1 x2 (ix2 r s) = ((code (o s) : ℝ) : EReal)) :
    countStep i x1 x2 a (ix2 r 0) = a (ix2 r 0) + ∑ s, pixelCount (o s) := by
  unfold countStep
  generalize k0_pay4 i x1 x2 = q at ho
  pointwise [k0_pay9, k0_pay7]
  refine congrArg _ (Finset.sum_congr rfl fun s _ => ?_)
  rw [ho s, ofBits_half]
  match o s with
  | none => exact if_neg (by rw [EReal.coe_lt_coe_iff]; norm_num [code])
  | some k =>
    refine if_pos ?_
    rw [EReal.coe_lt_coe_iff]
    have : (0 : ℝ) ≤ (k.val : ℝ) := by positivity
    show (1 / 2 : ℝ) < (k.val : ℝ) + 4
    linarith

theorem zero_loss (r : Fin 32) : k0_pay2 (F := Ideal) (ix2 r 0) = 0 := by
  pointwise [k0_pay2]

theorem zero_count (r : Fin 32) : k0_pay3 (F := Ideal) (ix2 r 0) = 0 := by
  pointwise [k0_pay3]

/-- The last quotient: the sum of the losses over the rows, by the sum of the counts, or by one. -/
theorem quotient_at (a b : FVec Ideal S32x1 .f32) :
    k0_pay1 (F := Ideal) a b (ix2 0 0) = Ideal.div (∑ r, a (ix2 r 0)) (max (∑ r, b (ix2 r 0)) 1) := by
  pointwise [k0_pay1]

end Cert.KernelIdeal.Loss

end
-- ==== Proof.Kernel.Windows.lean ====
/-
  The blocks the windows bring in, read from the arguments: at a point the logits and the masks are 32 rows of the
  whole arrays, the classes are all of them. The logits and the classes reach the kernel transposed.
-/
module

public import proofs.«01_k».proof.Proof.Kernel.Block

@[expose] public section

set_option maxRecDepth 16384

noncomputable section

namespace Cert.KernelIdeal.Loss

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (c : Dev nD)

theorem logits_eq : V m c main_v0
    = transpose S3x512x8192 [1, 0, 2] (m ((c.tc : Thread nD τ).loc main_arg0)) transposes_S512x3x8192_S3x512x8192_1_0_2 := by
  show StableHlo.after hostOps0 _ _ = _
  after_results

theorem classes_eq : V m c main_v1
    = transpose S8x512 [1, 0] (m ((c.tc : Thread nD τ).loc main_arg1)) transposes_S512x8_S8x512_1_0 := by
  show StableHlo.after hostOps0 _ _ = _
  after_results

theorem index0 : ∀ t : Fin cfg0.N, win0_0.index t 0 = 0 ∧ win0_0.index t 1 = (grid0.coords t 0).val ∧ win0_0.index t 2 = 0 := by
  decide +kernel

theorem index1 : ∀ t : Fin cfg0.N, win0_1.index t 0 = 0 ∧ win0_1.index t 1 = 0 := by
  decide +kernel

theorem index2 : ∀ t : Fin cfg0.N, win0_2.index t 0 = (grid0.coords t 0).val ∧ win0_2.index t 1 = 0 ∧ win0_2.index t 2 = 0 := by
  decide +kernel

/-- The logits of a point. -/
theorem block0_at (t : Fin cfg0.N) (k : Fin 3) (r : Fin 32) (s : Fin 8192) :
    iblk m c 0 t (ix3 k r s) = m ((c.tc : Thread nD τ).loc main_arg0) (ix3 (rowOf (grid0.coords t) r) k s) := by
  unfold iblk
  rw [View.read_apply]
  show V m c main_v0 _ = _
  rw [logits_eq]
  obtain ⟨e0, e1, e2⟩ := index0 t
  refine transpose_apply _ _ _ _ _ ?_
  intro a
  match a with
  | ⟨0, _⟩ => show k.val = win0_0.index t 0 * 3 + 1 * k.val; rw [e0]; omega
  | ⟨1, _⟩ => show 32 * (grid0.coords t 0).val + r.val = win0_0.index t 1 * 32 + 1 * r.val; rw [e1]; omega
  | ⟨2, _⟩ => show s.val = win0_0.index t 2 * 8192 + 1 * s.val; rw [e2]; omega

/-- The classes, at every point. -/
theorem block1_at (t : Fin cfg0.N) (k : Fin 8) (b : Fin 512) :
    iblk m c 1 t (ix2 k b) = m ((c.tc : Thread nD τ).loc main_arg1) (ix2 b k) := by
  unfold iblk
  rw [View.read_apply]
  show V m c main_v1 _ = _
  rw [classes_eq]
  obtain ⟨e0, e1⟩ := index1 t
  refine transpose_apply _ _ _ _ _ ?_
  intro a
  match a with
  | ⟨0, _⟩ => show k.val = win0_1.index t 0 * 8 + 1 * k.val; rw [e0]; omega
  | ⟨1, _⟩ => show b.val = win0_1.index t 1 * 512 + 1 * b.val; rw [e1]; omega

/-- The masks of a point. -/
theorem block2_at (t : Fin cfg0.N) (r : Fin 32) (k : Fin 8) (s : Fin 8192) :
    iblk m c 2 t (ix3 r k s) = m ((c.tc : Thread nD τ).loc main_arg2) (ix3 (rowOf (grid0.coords t) r) k s) := by
  unfold iblk
  rw [View.read_apply]
  show V m c main_arg2 _ = _
  rw [V_main_arg2]
  obtain ⟨e0, e1, e2⟩ := index2 t
  congr 1
  funext a
  apply Fin.ext
  match a with
  | ⟨0, _⟩ => show win0_2.index t 0 * 32 + 1 * r.val = 32 * (grid0.coords t 0).val + r.val; rw [e0]; omega
  | ⟨1, _⟩ => show win0_2.index t 1 * 8 + 1 * k.val = k.val; rw [e1]; omega
  | ⟨2, _⟩ => show win0_2.index t 2 * 8192 + 1 * s.val = s.val; rw [e2]; omega

end Cert.KernelIdeal.Loss

end
-- ==== Proof.Kernel.Sum.lean ====
/-
  The kernel's result over the exact numbers: when every pixel has a target, the two accumulators of a row hold the
  sums of the losses and of the counts of that row of every point, and the quotient is the mean loss.
-/
module

public import proofs.«01_k».proof.Proof.Kernel.Windows

@[expose] public section

set_option maxRecDepth 16384

noncomputable section

namespace Cert.KernelIdeal.Loss

open Idealize.ShloMosaic Idealize.ShloMosaic.TcCoe Idealize.SL.Sem Cert.Loss
open Cert.KernelIdeal Cert.KernelIdeal.Gen

/-- A function of the 512 rows, at a number (zero past the last row). -/
def atRow (f : Fin 512 → EReal) (b : ℕ) : EReal := if h : b < 512 then f ⟨b, h⟩ else 0

theorem atRow_val (f : Fin 512 → EReal) (b : Fin 512) : atRow f b.val = f b := dif_pos b.isLt

/-- 16 points of 32 rows are the 512 rows. -/
theorem sum_rows (f : Fin 512 → EReal) : ∑ r : Fin 32, ∑ i ∈ Finset.range 16, atRow f (32 * i + r.val) = ∑ b, f b := by
  have e : ∀ r : Fin 32, ∑ i ∈ Finset.range 16, atRow f (32 * i + r.val) = ∑ i : Fin 16, atRow f (32 * i.val + r.val) :=
    fun r => (Fin.sum_univ_eq_sum_range (fun i => atRow f (32 * i + r.val)) 16).symm
  rw [Finset.sum_congr rfl fun r _ => e r, Finset.sum_comm]
  have e' := (finProdFinEquiv (m := 16) (n := 32)).sum_comp fun b => f b
  rw [← e', Fintype.sum_prod_type]
  refine Finset.sum_congr rfl fun i _ => Finset.sum_congr rfl fun r _ => ?_
  rw [← atRow_val f (finProdFinEquiv (i, r))]
  congr 1
  show 32 * i.val + r.val = r.val + 32 * i.val
  omega

/-- The row of point `n`. -/
theorem rowOf_val (n : ℕ) (h : n < cfg0.N) (r : Fin 32) : (rowOf (grid0.coords ⟨n, h⟩) r).val = 32 * n + r.val := by
  have e : ∀ t : Fin cfg0.N, (grid0.coords t 0).val = t.val := by decide +kernel
  show 32 * (grid0.coords ⟨n, h⟩ 0).val + r.val = _
  rw [e]

variable (m : (ℓ : Loc nD τ sig) → Buf (Elt Ideal) ℓ) (c : Dev nD)

/-- The logits of a pixel. -/
def logits (b : Fin 512) (s : Fin 8192) (k : Fin 3) : EReal :=
  (m ((c.tc : Thread nD τ).loc main_arg0) : FVec Ideal S512x3x8192 .f32) (ix3 b k s)

/-- The weighted mask sum of a pixel. -/
def codeSum (b : Fin 512) (s : Fin 8192) : EReal :=
  ∑ t : Fin 8, weight ((m ((c.tc : Thread nD τ).loc main_arg1) : IVec S512x8 32) (ix2 b t))
    * ((((m ((c.tc : Thread nD τ).loc main_arg2) : IVec S512x8x8192 32) (ix3 b t s)).toInt : ℝ) : EReal)

theorem pay4_point (t : Fin cfg0.N) (r : Fin 32) (s : Fin 8192) :
    k0_pay4 (F := Ideal) (grid0.coords t) (iblk m c 1 t) (iblk m c 2 t) (ix2 r s) = codeSum m c (rowOf (grid0.coords t) r) s := by
  refine (pay4_at _ _ _ r s).trans (Finset.sum_congr rfl fun k _ => ?_)
  rw [block1_at m c t k _, block2_at m c t r k s]

variable (o : Fin 512 → Fin 8192 → Option (Fin 3)) (ho : ∀ b s, codeSum m c b s = ((code (o b s) : ℝ) : EReal))

include ho

theorem loss_point (n : ℕ) (h : n < cfg0.N) (a : Vec Ideal S32x1 .f32) (r : Fin 32) :
    lossStep (grid0.coords ⟨n, h⟩) (iblk m c 0 ⟨n, h⟩) (iblk m c 1 ⟨n, h⟩) (iblk m c 2 ⟨n, h⟩) a (ix2 r 0)
      = a (ix2 r 0) + atRow (fun b => ∑ s, pixelLoss (logits m c b s) (o b s)) (32 * n + r.val) := by
  rw [← rowOf_val n h r, atRow_val]
  refine (lossStep_at _ _ _ _ a r (o (rowOf (grid0.coords ⟨n, h⟩) r)) fun s => (pay4_point m c _ r s).trans (ho _ s)).trans ?_
  refine congrArg _ (Finset.sum_congr rfl fun s _ => ?_)
  exact congrArg (fun p => pixelLoss p _) (funext fun k => block0_at m c ⟨n, h⟩ k r s)

theorem count_point (n : ℕ) (h : n < cfg0.N) (a : Vec Ideal S32x1 .f32) (r : Fin 32) :
    countStep (grid0.coords ⟨n, h⟩) (iblk m c 1 ⟨n, h⟩) (iblk m c 2 ⟨n, h⟩) a (ix2 r 0)
      = a (ix2 r 0) + atRow (fun b => ∑ s, pixelCount (o b s)) (32 * n + r.val) := by
  rw [← rowOf_val n h r, atRow_val]
  exact countStep_at _ _ _ a r (o (rowOf (grid0.coords ⟨n, h⟩) r)) fun s => (pay4_point m c _ r s).trans (ho _ s)

theorem lossAt_eq : ∀ (n : ℕ) (h : n < cfg0.N) (r : Fin 32), lossAt m c n h (ix2 r 0)
      = ∑ i ∈ Finset.range (n + 1), atRow (fun b => ∑ s, pixelLoss (logits m c b s) (o b s)) (32 * i + r.val)
  | 0, h, r => by
    rw [Finset.sum_range_one]
    refine (loss_point m c o ho 0 h _ r).trans ?_
    rw [zero_loss, zero_add]
  | n + 1, h, r => by
    rw [Finset.sum_range_succ, ← lossAt_eq n (Nat.lt_of_succ_lt h) r]
    exact loss_point m c o ho (n + 1) h _ r

theorem countAt_eq : ∀ (n : ℕ) (h : n < cfg0.N) (r : Fin 32), countAt m c n h (ix2 r 0)
      = ∑ i ∈ Finset.range (n + 1), atRow (fun b => ∑ s, pixelCount (o b s)) (32 * i + r.val)
  | 0, h, r => by
    rw [Finset.sum_range_one]
    refine (count_point m c o ho 0 h _ r).trans ?_
    rw [zero_count, zero_add]
  | n + 1, h, r => by
    rw [Finset.sum_range_succ, ← countAt_eq n (Nat.lt_of_succ_lt h) r]
    exact count_point m c o ho (n + 1) h _ r

/-- The kernel's result is the mean loss. -/
theorem result_eq : result m c = fun _ => meanLoss (logits m c) o := by
  funext i
  have e : result m c i = quotient m c (ix2 0 0) := congrArg (quotient m c) (idx11 _ _)
  rw [e]
  unfold quotient meanLoss
  refine (quotient_at _ _).trans ?_
  rw [Finset.sum_congr rfl fun r _ => lossAt_eq m c o ho 15 lt15 r, Finset.sum_congr rfl fun r _ => countAt_eq m c o ho 15 lt15 r,
    sum_rows, sum_rows]

end Cert.KernelIdeal.Loss

end
-- ==== Proof.Equation.lean ====
/-
  The two results are equal: under the precondition every pixel has a target, and both programs compute the mean loss
  over those targets.
-/
module

public import proofs.«01_k».proof.Defs
public import proofs.«01_k».proof.Proof.Domain
public import proofs.«01_k».proof.Proof.Reference
public import proofs.«01_k».proof.Proof.Kernel.Sum

@[expose] public section

set_option maxRecDepth 16384

noncomputable section

namespace Cert.Loss

open Idealize.ShloMosaic Idealize.ShloMosaic.TcCoe Idealize.SL.Sem

/-- The kernel's result is the reference's term of the same arguments. -/
theorem values (m : (ℓ : Loc Cert.KernelIdeal.nD Cert.KernelIdeal.τ Cert.KernelIdeal.sig) → Buf (Elt Ideal) ℓ)
    (c : Dev Cert.KernelIdeal.nD)
    (h : Cert.Pre_well_posed.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1) :
    Cert.ReferenceIdeal.Read.val_main_v24 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      = Cert.KernelIdeal.Loss.result m c := by
  have hp := pre_at _ _ _ h
  choose o hw hc using fun b s => (hp b s).1.target
  rw [Cert.KernelIdeal.Loss.result_eq m c o hc]
  funext i
  exact Cert.ReferenceIdeal.Loss.mean _ _ _ o (fun b s => (Cert.ReferenceIdeal.Loss.word_at _ _ b s).trans (hw b s)) (fun b s => (hp b s).2) i

/-- The kernel and the reference end with equal results. -/
theorem equation : Cert.algebraic_KernelIdeal_ReferenceIdeal_pre_well_posed
    (hKernelIdeal := Cert.KernelIdeal.Gen.facts) (hReferenceIdeal := Cert.ReferenceIdeal.Gen.facts) (hPre_well_posed := preFacts) := by
  intro m ρ m' ρ' hpre hagree
  refine ⟨_, Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v24_eq m' c).trans ?_
  rw [(hagree c).1, (hagree c).2.1, (hagree c).2.2]
  exact values m c (hpre c)

end Cert.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The reference's run, cut down to its frame. -/
theorem referenceFrame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Everything claimed. -/
theorem claim : Cert.Claim :=
  ⟨Cert.Kernel.Gen.facts, Cert.KernelIdeal.Gen.facts, Cert.ReferenceIdeal.Gen.facts, Cert.Loss.preFacts,
    fun m ρ _ => Cert.Kernel.Gen.frame m ρ, fun m ρ _ => Cert.KernelIdeal.Gen.frame m ρ,
    fun m ρ _ => Cert.KernelIdeal.Gen.frame m ρ, fun m ρ _ => referenceFrame m ρ, fun m ρ _ => referenceFrame m ρ,
    trivial, Cert.Loss.equation⟩

end Cert.Proof

end
